-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S4x4096x2048 : Shape := ⟨3, ![4, 4096, 2048]⟩
abbrev S4x8x2048 : Shape := ⟨3, ![4, 8, 2048]⟩
abbrev S16x4x8x2048 : Shape := ⟨4, ![16, 4, 8, 2048]⟩
abbrev S_ : Shape := ⟨0, ![]⟩
abbrev S1x8x2048 : Shape := ⟨3, ![1, 8, 2048]⟩
abbrev S8x2048 : Shape := ⟨2, ![8, 2048]⟩
abbrev S1x1x8x2048 : Shape := ⟨4, ![1, 1, 8, 2048]⟩

abbrev nBuf : Table → Nat
  | .hbm => 2
  | .shared => 1
  | .local .scVector .vmem => 1
  | _ => 0

abbrev bufTy : (tb : Table) → Fin (nBuf tb) → BufTy
  | .hbm, ⟨0, _⟩ => ⟨S16384x2048, .f32⟩
  | .hbm, ⟨1, _⟩ => ⟨S4x4096x2048, .f32⟩
  | .shared, ⟨0, _⟩ => ⟨S16x4x8x2048, .f32⟩
  | .local .scVector .vmem, ⟨0, _⟩ => ⟨S4x8x2048, .f32⟩
  | _, _ => ⟨S16384x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch1 : Ref sig .scVector := ⟨.shared, 0, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_10 : BitVec 32 := 512#32
  let v30 : BitVec 32 := Scalar.muli v1 c512_i32_10
  let v31 : BitVec 32 := Scalar.addi v30 c0_i32_11
  let c0_i32_15 : BitVec 32 := 0#32
  ![v31.toNat, 0]
def k0_off1_at (r : Fin 20) : BitVec 32 :=
  if r.val < 10 then
    if r.val < 5 then
      if r.val < 2 then
        if r.val < 1 then
          0#32
        else
          8#32
      else
        if r.val < 3 then
          16#32
        else
          if r.val < 4 then
            24#32
          else
            32#32
    else
      if r.val < 7 then
        if r.val < 6 then
          40#32
        else
          48#32
      else
        if r.val < 8 then
          56#32
        else
          if r.val < 9 then
            64#32
          else
            72#32
  else
    if r.val < 15 then
      if r.val < 12 then
        if r.val < 11 then
          80#32
        else
          88#32
      else
        if r.val < 13 then
          448#32
        else
          if r.val < 14 then
            480#32
          else
            456#32
    else
      if r.val < 17 then
        if r.val < 16 then
          488#32
        else
          464#32
      else
        if r.val < 18 then
          496#32
        else
          if r.val < 19 then
            472#32
          else
            504#32
def k0_off2 (i : grid0.Coords) (c0_i32_48 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v66 : BitVec 32 := Scalar.addi v29 c0_i32_48
  let c0_i32_52 : BitVec 32 := 0#32
  ![v18.toNat, v66.toNat, 0]
def k0_off2_at (r : Fin 20) : BitVec 32 :=
  if r.val < 10 then
    if r.val < 5 then
      if r.val < 2 then
        if r.val < 1 then
          0#32
        else
          8#32
      else
        if r.val < 3 then
          16#32
        else
          if r.val < 4 then
            24#32
          else
            32#32
    else
      if r.val < 7 then
        if r.val < 6 then
          40#32
        else
          48#32
      else
        if r.val < 8 then
          56#32
        else
          if r.val < 9 then
            448#32
          else
            416#32
  else
    if r.val < 15 then
      if r.val < 12 then
        if r.val < 11 then
          456#32
        else
          424#32
      else
        if r.val < 13 then
          464#32
        else
          if r.val < 14 then
            432#32
          else
            472#32
    else
      if r.val < 17 then
        if r.val < 16 then
          440#32
        else
          480#32
      else
        if r.val < 18 then
          488#32
        else
          if r.val < 19 then
            496#32
          else
            504#32
def k0_off3 (i : grid0.Coords) : Fin 4 → Nat :=
  let arg1 : BitVec 32 := BitVec.ofNat 32 (i 1).val
  let c0_i32_56 : BitVec 32 := 0#32
  let c0_i32_57 : BitVec 32 := 0#32
  let c0_i32_58 : BitVec 32 := 0#32
  ![arg1.toNat, 0, 0, 0]
def k0_off4 (i : grid0.Coords) : Fin 4 → Nat :=
  let arg1 : BitVec 32 := BitVec.ofNat 32 (i 1).val
  let c1_i32_76 : BitVec 32 := 1#32
  let c0_i32_77 : BitVec 32 := 0#32
  let c0_i32_78 : BitVec 32 := 0#32
  ![arg1.toNat, 1, 0, 0]
def k0_off5 (i : grid0.Coords) : Fin 4 → Nat :=
  let arg1 : BitVec 32 := BitVec.ofNat 32 (i 1).val
  let c2_i32_96 : BitVec 32 := 2#32
  let c0_i32_97 : BitVec 32 := 0#32
  let c0_i32_98 : BitVec 32 := 0#32
  ![arg1.toNat, 2, 0, 0]
def k0_off6 (i : grid0.Coords) : Fin 4 → Nat :=
  let arg1 : BitVec 32 := BitVec.ofNat 32 (i 1).val
  let c3_i32_116 : BitVec 32 := 3#32
  let c0_i32_117 : BitVec 32 := 0#32
  let c0_i32_118 : BitVec 32 := 0#32
  ![arg1.toNat, 3, 0, 0]
@[reducible] def k0_t1_loop : Scf.Loop 32 :=
  let c0_i32_220 : BitVec 32 := 0#32
  let c6_i32 : BitVec 32 := 6#32
  let v239 : BitVec 32 := Scalar.addi c0_i32_220 c6_i32
  let c1_i32_221 : BitVec 32 := 1#32
  ⟨c0_i32_220, v239, c1_i32_221⟩
def k0_off7 (i : grid0.Coords) (k0_t1 : Fin k0_t1_loop.trips) (c0_i32_410 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_10 : BitVec 32 := 512#32
  let v30 : BitVec 32 := Scalar.muli v1 c512_i32_10
  let c1_i32_408 : BitVec 32 := 1#32
  let c0_i32_220 : BitVec 32 := 0#32
  let c1_i32_221 : BitVec 32 := 1#32
  let arg22 : BitVec 32 := Scf.iv c0_i32_220 c1_i32_221 k0_t1
  let c1_i32_407 : BitVec 32 := 1#32
  let v432 : BitVec 32 := Scalar.muli arg22 c1_i32_407
  let v433 : BitVec 32 := Scalar.addi c1_i32_408 v432
  let c8_i32_409 : BitVec 32 := 8#32
  let v434 : BitVec 32 := Scalar.muli v433 c8_i32_409
  let v435 : BitVec 32 := Scalar.addi v434 c0_i32_410
  let c8_i32_411 : BitVec 32 := 8#32
  let v436 : BitVec 32 := Scalar.muli v435 c8_i32_411
  let v437 : BitVec 32 := Scalar.addi v30 v436
  let c0_i32_415 : BitVec 32 := 0#32
  ![v437.toNat, 0]
def k0_off8 (i : grid0.Coords) (k0_t1 : Fin k0_t1_loop.trips) (c0_i32_410 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c1_i32_408 : BitVec 32 := 1#32
  let c0_i32_220 : BitVec 32 := 0#32
  let c1_i32_221 : BitVec 32 := 1#32
  let arg22 : BitVec 32 := Scf.iv c0_i32_220 c1_i32_221 k0_t1
  let c1_i32_407 : BitVec 32 := 1#32
  let v432 : BitVec 32 := Scalar.muli arg22 c1_i32_407
  let v433 : BitVec 32 := Scalar.addi c1_i32_408 v432
  let c8_i32_409 : BitVec 32 := 8#32
  let v434 : BitVec 32 := Scalar.muli v433 c8_i32_409
  let v435 : BitVec 32 := Scalar.addi v434 c0_i32_410
  let c8_i32_419 : BitVec 32 := 8#32
  let v444 : BitVec 32 := Scalar.muli v435 c8_i32_419
  let v445 : BitVec 32 := Scalar.addi v29 v444
  let c0_i32_423 : BitVec 32 := 0#32
  ![v18.toNat, v445.toNat, 0]
def k0_off9 (i : grid0.Coords) : Fin 4 → Nat :=
  let arg1 : BitVec 32 := BitVec.ofNat 32 (i 1).val
  let c0_i32_428 : BitVec 32 := 0#32
  let c0_i32_430 : BitVec 32 := 0#32
  let c0_i32_431 : BitVec 32 := 0#32
  ![arg1.toNat, 0, 0, 0]
def k0_off10 (i : grid0.Coords) (k0_t1 : Fin k0_t1_loop.trips) (c0_i32_410 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_10 : BitVec 32 := 512#32
  let v30 : BitVec 32 := Scalar.muli v1 c512_i32_10
  let c1_i32_408 : BitVec 32 := 1#32
  let c0_i32_220 : BitVec 32 := 0#32
  let c1_i32_221 : BitVec 32 := 1#32
  let arg22 : BitVec 32 := Scf.iv c0_i32_220 c1_i32_221 k0_t1
  let c1_i32_407 : BitVec 32 := 1#32
  let v432 : BitVec 32 := Scalar.muli arg22 c1_i32_407
  let v433 : BitVec 32 := Scalar.addi c1_i32_408 v432
  let c8_i32_409 : BitVec 32 := 8#32
  let v434 : BitVec 32 := Scalar.muli v433 c8_i32_409
  let v435 : BitVec 32 := Scalar.addi v434 c0_i32_410
  let c4_i32 : BitVec 32 := 4#32
  let v460 : BitVec 32 := Scalar.addi v435 c4_i32
  let c8_i32_432 : BitVec 32 := 8#32
  let v461 : BitVec 32 := Scalar.muli v460 c8_i32_432
  let v462 : BitVec 32 := Scalar.addi v30 v461
  let c0_i32_436 : BitVec 32 := 0#32
  ![v462.toNat, 0]
def k0_off11 (i : grid0.Coords) : Fin 4 → Nat :=
  let arg1 : BitVec 32 := BitVec.ofNat 32 (i 1).val
  let c1_i32_455 : BitVec 32 := 1#32
  let c0_i32_457 : BitVec 32 := 0#32
  let c0_i32_458 : BitVec 32 := 0#32
  ![arg1.toNat, 1, 0, 0]
def k0_off12 (i : grid0.Coords) : Fin 4 → Nat :=
  let arg1 : BitVec 32 := BitVec.ofNat 32 (i 1).val
  let c2_i32_483 : BitVec 32 := 2#32
  let c0_i32_485 : BitVec 32 := 0#32
  let c0_i32_486 : BitVec 32 := 0#32
  ![arg1.toNat, 2, 0, 0]
def k0_off13 (i : grid0.Coords) : Fin 4 → Nat :=
  let arg1 : BitVec 32 := BitVec.ofNat 32 (i 1).val
  let c3_i32_511 : BitVec 32 := 3#32
  let c0_i32_513 : BitVec 32 := 0#32
  let c0_i32_514 : BitVec 32 := 0#32
  ![arg1.toNat, 3, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2048 : Shape := ⟨2, ![16384, 2048]⟩
abbrev S4x4096x2048 : Shape := ⟨3, ![4, 4096, 2048]⟩

abbrev nBuf : Space → Nat
  | .hbm => 2
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x4096x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Offsets.lean ====
/-
  Where the kernel's copies begin. Worker `(c, s)` — SparseCore `c`, tile `s` — has number `2 s + c` and moves 64 chunks
  of 8 rows; chunk `n` is read at row `1024 s + 512 c + 8 n` of the input and written at block `(2 s + c) / 8`, row
  `512 ((2 s + c) % 8) + 8 n` of the output. The printed program computes these in 32-bit words; here each computed
  offset is given as a plain number.
-/
module

public import proofs.«01_k».proof.Proof.Gen.KernelIdeal

@[expose] public section

namespace Cert.Proof

open Cert.KernelIdeal Cert.KernelIdeal.Gen
open Idealize.ShloMosaic

/-- The straight-line reads begin at row `1024 s + 512 c + w` of the input, at the start words `w = 8 n`. -/
theorem readOff_straight : ∀ (i : grid0.Coords) (n : Fin 64),
    k0_off1 i (BitVec.ofNat 32 (8 * n.val)) = ![1024 * (i 1).val + 512 * (i 0).val + 8 * n.val, 0] := by decide +kernel

/-- The straight-line writes begin at block `(2 s + c) / 8`, row `512 ((2 s + c) % 8) + w` of the output, at `w = 8 n`. -/
theorem writeOff_straight : ∀ (i : grid0.Coords) (n : Fin 64),
    k0_off2 i (BitVec.ofNat 32 (8 * n.val))
      = ![(2 * (i 1).val + (i 0).val) / 8, 512 * ((2 * (i 1).val + (i 0).val) % 8) + 8 * n.val, 0] := by
  decide +kernel

/-- Trip `t` of the loop writes, at its `r`-th step, chunk `8 (t + 1) + r`. -/
theorem writeOff_loop : ∀ (i : grid0.Coords) (t : Fin k0_t1_loop.trips) (r : Fin 8),
    k0_off8 i t (BitVec.ofNat 32 r.val)
      = ![(2 * (i 1).val + (i 0).val) / 8, 512 * ((2 * (i 1).val + (i 0).val) % 8) + 8 * (8 * (t.val + 1) + r.val), 0] := by
  decide +kernel

/-- The loop runs six times. -/
theorem trips_eq : k0_t1_loop.trips = 6 := by decide +kernel

end Cert.Proof
-- ==== Proof.Chunks.lean ====
/-
  The chunks and the slots as memory references, and which elements they are. Worker `L = (c, s)` moves chunks
  `n = 0 … 63` through eight slots of one chunk each: slots 0–3 are the quarters of its tile's own memory, slots 4–7 the
  four quarters of row `s` of the memory its SparseCore's tiles share.
-/
module

public import proofs.«01_k».proof.Proof.Offsets

@[expose] public section

namespace Cert.Proof

open Cert.KernelIdeal Cert.KernelIdeal.Gen
open Idealize.ShloMosaic

/-! ## The four arrays and the pieces the copies move -/

/-- The input array as a tile addresses it. -/
abbrev inMem : Memref sig .scVector .hbm S16384x2048 .f32 := Memref.whole main_arg0_scv
/-- The output array as a tile addresses it. -/
abbrev outMem : Memref sig .scVector .hbm S4x4096x2048 .f32 := Memref.whole main_v0_scv
/-- The tile's own memory. -/
abbrev ownMem : Memref sig .scVector .vmem S4x8x2048 .f32 := Memref.whole cc0_scratch0
/-- The memory shared by the tiles of a SparseCore. -/
abbrev commonMem : Memref sig .scVector .shared S16x4x8x2048 .f32 := Memref.whole cc0_scratch1

/-- There are two SparseCores. -/
theorem core_lt (L : grid0.Coords) : (L 0).val < 2 := (L 0).isLt
/-- Each has sixteen tiles. -/
theorem tile_lt (L : grid0.Coords) : (L 1).val < 16 := (L 1).isLt

/-- Where chunk `n` of worker `L` begins in the input. -/
def readAt (L : grid0.Coords) (n : Nat) : Fin 2 → Nat := ![1024 * (L 1).val + 512 * (L 0).val + 8 * (n % 64), 0]
/-- Where chunk `n` of worker `L` begins in the output. -/
def writeAt (L : grid0.Coords) (n : Nat) : Fin 3 → Nat :=
  ![(2 * (L 1).val + (L 0).val) / 8, 512 * ((2 * (L 1).val + (L 0).val) % 8) + 8 * (n % 64), 0]

/-- A chunk lies inside the input. -/
theorem readAt_inb (L : grid0.Coords) (n : Nat) : ∀ a, readAt L n a + S8x2048.size a ≤ S16384x2048.size a := by
  have hc := core_lt L; have hs := tile_lt L
  intro a
  match a with
  | 0 => show 1024 * (L 1).val + 512 * (L 0).val + 8 * (n % 64) + 8 ≤ 16384; omega
  | 1 => show 0 + 2048 ≤ 2048; omega

/-- A chunk lies inside the output. -/
theorem writeAt_inb (L : grid0.Coords) (n : Nat) : ∀ a, writeAt L n a + S1x8x2048.size a ≤ S4x4096x2048.size a := by
  have hc := core_lt L; have hs := tile_lt L
  intro a
  match a with
  | 0 => show (2 * (L 1).val + (L 0).val) / 8 + 1 ≤ 4; omega
  | 1 => show 512 * ((2 * (L 1).val + (L 0).val) % 8) + 8 * (n % 64) + 8 ≤ 4096; omega
  | 2 => show 0 + 2048 ≤ 2048; omega

/-- Chunk `n` of worker `L` in the input: 8 rows. -/
def inChunk (L : grid0.Coords) (n : Nat) : Memref sig .scVector .hbm S8x2048 .f32 :=
  inMem.slice (Rect.unit (s := S16384x2048) (readAt L n) S8x2048.size (readAt_inb L n)) (fun _ => rfl)
/-- Chunk `n` of worker `L` in the output: 8 rows of one block. -/
def outChunk (L : grid0.Coords) (n : Nat) : Memref sig .scVector .hbm S8x2048 .f32 :=
  (outMem.slice (Rect.unit (s := S4x4096x2048) (writeAt L n) S1x8x2048.size (writeAt_inb L n)) (fun _ => rfl)).squeeze S8x2048
    squeezes_S1x8x2048_S8x2048

/-- A quarter lies inside the tile's own memory. -/
theorem ownAt_inb (b : Fin 4) : ∀ a, (![b.val, 0, 0] : Fin 3 → Nat) a + S1x8x2048.size a ≤ S4x8x2048.size a := by
  intro a
  match a with
  | 0 => show b.val + 1 ≤ 4; omega
  | 1 => show 0 + 8 ≤ 8; omega
  | 2 => show 0 + 2048 ≤ 2048; omega

/-- A quarter of a row lies inside the shared memory. -/
theorem commonAt_inb (s : Fin 16) (b : Fin 4) :
    ∀ a, (![s.val, b.val, 0, 0] : Fin 4 → Nat) a + S1x1x8x2048.size a ≤ S16x4x8x2048.size a := by
  intro a
  match a with
  | 0 => show s.val + 1 ≤ 16; omega
  | 1 => show b.val + 1 ≤ 4; omega
  | 2 => show 0 + 8 ≤ 8; omega
  | 3 => show 0 + 2048 ≤ 2048; omega

/-- Quarter `b` of the tile's own memory. -/
def ownQuarter (b : Fin 4) : Memref sig .scVector .vmem S8x2048 .f32 :=
  (ownMem.slice (Rect.unit (s := S4x8x2048) ![b.val, 0, 0] S1x8x2048.size (ownAt_inb b)) (fun _ => rfl)).squeeze S8x2048
    squeezes_S1x8x2048_S8x2048
/-- Quarter `b` of row `s` of the shared memory. -/
def commonQuarter (s : Fin 16) (b : Fin 4) : Memref sig .scVector .shared S8x2048 .f32 :=
  (commonMem.slice (Rect.unit (s := S16x4x8x2048) ![s.val, b.val, 0, 0] S1x1x8x2048.size (commonAt_inb s b)) (fun _ => rfl)).squeeze
    S8x2048 squeezes_S1x1x8x2048_S8x2048

/-! ## The program's own spelling of them -/

/-- A slice of the input at a chunk's start is the chunk. -/
theorem slice_inChunk {L : grid0.Coords} {n : Nat} {off : Fin 2 → Nat} (h : off = readAt L n)
    {p : ∀ a, off a + S8x2048.size a ≤ S16384x2048.size a} :
    inMem.slice (Rect.unit (s := S16384x2048) off S8x2048.size p) (fun _ => rfl) = inChunk L n := by
  subst h; rfl

/-- A slice of the output at a chunk's start is the chunk. -/
theorem slice_outChunk {L : grid0.Coords} {n : Nat} {off : Fin 3 → Nat} (h : off = writeAt L n)
    {p : ∀ a, off a + S1x8x2048.size a ≤ S4x4096x2048.size a} :
    (outMem.slice (Rect.unit (s := S4x4096x2048) off S1x8x2048.size p) (fun _ => rfl)).squeeze S8x2048
      squeezes_S1x8x2048_S8x2048 = outChunk L n := by
  subst h; rfl

/-- A slice of the shared memory at a quarter's start is the quarter. -/
theorem slice_commonQuarter {s : Fin 16} {b : Fin 4} {off : Fin 4 → Nat} (h : off = ![s.val, b.val, 0, 0])
    {p : ∀ a, off a + S1x1x8x2048.size a ≤ S16x4x8x2048.size a} :
    (commonMem.slice (Rect.unit (s := S16x4x8x2048) off S1x1x8x2048.size p) (fun _ => rfl)).squeeze S8x2048
      squeezes_S1x1x8x2048_S8x2048 = commonQuarter s b := by
  subst h; rfl

/-- A straight-line read's source is the chunk its start word names. -/
theorem readAt_straight (L : grid0.Coords) (n : Fin 64) : k0_off1 L (BitVec.ofNat 32 (8 * n.val)) = readAt L n.val := by
  rw [readOff_straight, readAt, Nat.mod_eq_of_lt n.isLt]

/-- A straight-line write's target is the chunk its start word names. -/
theorem writeAt_straight (L : grid0.Coords) (n : Fin 64) : k0_off2 L (BitVec.ofNat 32 (8 * n.val)) = writeAt L n.val := by
  rw [writeOff_straight, writeAt, Nat.mod_eq_of_lt n.isLt]

/-- The loop's reads ahead: trip `t`, step `r` starts chunk `8 (t + 1) + r + 4`. -/
theorem readAt_loop (L : grid0.Coords) (t : Fin k0_t1_loop.trips) (r : Fin 8) :
    k0_off10 L t (BitVec.ofNat 32 r.val) = readAt L (8 * t.val + 12 + r.val) := by
  have ht : t.val < 6 := lt_of_lt_of_eq t.isLt trips_eq
  rw [k0_off10_eq, readAt]; congr 1; omega

/-- The loop's writes: trip `t`, step `r` starts chunk `8 (t + 1) + r`. -/
theorem writeAt_loop (L : grid0.Coords) (t : Fin k0_t1_loop.trips) (r : Fin 8) :
    k0_off8 L t (BitVec.ofNat 32 r.val) = writeAt L (8 * t.val + 8 + r.val) := by
  have ht : t.val < 6 := lt_of_lt_of_eq t.isLt trips_eq
  rw [writeOff_loop, writeAt]; congr 2; omega

/-! ## Which elements they are -/

/-- The elements of chunk `n` of worker `L` in the input. -/
abbrev inSet (L : grid0.Coords) (n : Nat) : Finset S16384x2048.Idx := (inChunk L n).view.set
/-- The elements of chunk `n` of worker `L` in the output. -/
abbrev outSet (L : grid0.Coords) (n : Nat) : Finset S4x4096x2048.Idx := (outChunk L n).view.set
/-- The elements of quarter `b` of the tile's own memory. -/
abbrev ownSet (b : Fin 4) : Finset S4x8x2048.Idx := (ownQuarter b).view.set
/-- The elements of quarter `b` of row `s` of the shared memory. -/
abbrev commonSet (s : Fin 16) (b : Fin 4) : Finset S16x4x8x2048.Idx := (commonQuarter s b).view.set

/-- A chunk's elements in the input are those of its rectangle. -/
theorem inSet_eq (L : grid0.Coords) (n : Nat) :
    inSet L n = (Rect.unit (s := S16384x2048) (readAt L n) S8x2048.size (readAt_inb L n)).set :=
  View.set_slice_whole main_arg0_scv _
/-- A chunk's elements in the output are those of its rectangle. -/
theorem outSet_eq (L : grid0.Coords) (n : Nat) :
    outSet L n = (Rect.unit (s := S4x4096x2048) (writeAt L n) S1x8x2048.size (writeAt_inb L n)).set :=
  (View.set_reshape _ _).trans (View.set_slice_whole main_v0_scv _)
/-- A quarter's elements are those of its rectangle. -/
theorem ownSet_eq (b : Fin 4) :
    ownSet b = (Rect.unit (s := S4x8x2048) ![b.val, 0, 0] S1x8x2048.size (ownAt_inb b)).set :=
  (View.set_reshape _ _).trans (View.set_slice_whole cc0_scratch0 _)
/-- So are those of a quarter of a shared row. -/
theorem commonSet_eq (s : Fin 16) (b : Fin 4) :
    commonSet s b = (Rect.unit (s := S16x4x8x2048) ![s.val, b.val, 0, 0] S1x1x8x2048.size (commonAt_inb s b)).set :=
  (View.set_reshape _ _).trans (View.set_slice_whole cc0_scratch1 _)

/-- An input element is in a chunk exactly when its row is one of the chunk's eight. -/
theorem mem_inSet {L : grid0.Coords} {n : Nat} {i : S16384x2048.Idx} :
    i ∈ inSet L n ↔ (i 0).val / 8 = 128 * (L 1).val + 64 * (L 0).val + n % 64 := by
  have h1 : (i 1).val < 2048 := (i 1).isLt
  rw [inSet_eq, Rect.mem_set_unit]
  constructor
  · intro h
    have h0 : 1024 * (L 1).val + 512 * (L 0).val + 8 * (n % 64) ≤ (i 0).val
        ∧ (i 0).val < 1024 * (L 1).val + 512 * (L 0).val + 8 * (n % 64) + 8 := h 0
    omega
  · intro h a
    match a with
    | 0 =>
      show 1024 * (L 1).val + 512 * (L 0).val + 8 * (n % 64) ≤ (i 0).val
        ∧ (i 0).val < 1024 * (L 1).val + 512 * (L 0).val + 8 * (n % 64) + 8
      omega
    | 1 => show 0 ≤ (i 1).val ∧ (i 1).val < 0 + 2048; omega

/-- An output element is in a chunk exactly when its row, counted through the blocks, is one of the chunk's eight. -/
theorem mem_outSet {L : grid0.Coords} {n : Nat} {i : S4x4096x2048.Idx} :
    i ∈ outSet L n ↔ 512 * (i 0).val + (i 1).val / 8 = 128 * (L 1).val + 64 * (L 0).val + n % 64 := by
  have hc := core_lt L; have hs := tile_lt L
  have h0 : (i 0).val < 4 := (i 0).isLt
  have h1 : (i 1).val < 4096 := (i 1).isLt
  have h2 : (i 2).val < 2048 := (i 2).isLt
  rw [outSet_eq, Rect.mem_set_unit]
  constructor
  · intro h
    have e0 : (2 * (L 1).val + (L 0).val) / 8 ≤ (i 0).val ∧ (i 0).val < (2 * (L 1).val + (L 0).val) / 8 + 1 := h 0
    have e1 : 512 * ((2 * (L 1).val + (L 0).val) % 8) + 8 * (n % 64) ≤ (i 1).val
        ∧ (i 1).val < 512 * ((2 * (L 1).val + (L 0).val) % 8) + 8 * (n % 64) + 8 := h 1
    omega
  · intro h a
    match a with
    | 0 =>
      show (2 * (L 1).val + (L 0).val) / 8 ≤ (i 0).val ∧ (i 0).val < (2 * (L 1).val + (L 0).val) / 8 + 1
      omega
    | 1 =>
      show 512 * ((2 * (L 1).val + (L 0).val) % 8) + 8 * (n % 64) ≤ (i 1).val
        ∧ (i 1).val < 512 * ((2 * (L 1).val + (L 0).val) % 8) + 8 * (n % 64) + 8
      omega
    | 2 => show 0 ≤ (i 2).val ∧ (i 2).val < 0 + 2048; omega

/-- An element of the tile's own memory is in the quarter its first coordinate names. -/
theorem mem_ownSet {b : Fin 4} {i : S4x8x2048.Idx} : i ∈ ownSet b ↔ (i 0).val = b.val := by
  have h1 : (i 1).val < 8 := (i 1).isLt
  have h2 : (i 2).val < 2048 := (i 2).isLt
  rw [ownSet_eq, Rect.mem_set_unit]
  constructor
  · intro h
    have h0 : b.val ≤ (i 0).val ∧ (i 0).val < b.val + 1 := h 0
    omega
  · intro h a
    match a with
    | 0 => show b.val ≤ (i 0).val ∧ (i 0).val < b.val + 1; omega
    | 1 => show 0 ≤ (i 1).val ∧ (i 1).val < 0 + 8; omega
    | 2 => show 0 ≤ (i 2).val ∧ (i 2).val < 0 + 2048; omega

/-- An element of the shared memory is in the row and the quarter its first two coordinates name. -/
theorem mem_commonSet {s : Fin 16} {b : Fin 4} {i : S16x4x8x2048.Idx} :
    i ∈ commonSet s b ↔ (i 0).val = s.val ∧ (i 1).val = b.val := by
  have h2 : (i 2).val < 8 := (i 2).isLt
  have h3 : (i 3).val < 2048 := (i 3).isLt
  rw [commonSet_eq, Rect.mem_set_unit]
  constructor
  · intro h
    have h0 : s.val ≤ (i 0).val ∧ (i 0).val < s.val + 1 := h 0
    have h1 : b.val ≤ (i 1).val ∧ (i 1).val < b.val + 1 := h 1
    omega
  · intro h a
    match a with
    | 0 => show s.val ≤ (i 0).val ∧ (i 0).val < s.val + 1; omega
    | 1 => show b.val ≤ (i 1).val ∧ (i 1).val < b.val + 1; omega
    | 2 => show 0 ≤ (i 2).val ∧ (i 2).val < 0 + 8; omega
    | 3 => show 0 ≤ (i 3).val ∧ (i 3).val < 0 + 2048; omega

end Cert.Proof
-- ==== Proof.Base.lean ====
/-
  The setting of the run: the launch's configuration, the resource algebra, the locations of the four arrays, and the
  value the output is to hold.
-/
module

public import proofs.«01_k».proof.Proof.Chunks
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program's calls. -/
abbrev ΛP : Labels := Pipeline.Sig Λ₀ (Fin 0) fun p => (pcfgs (F := F) p).Adm
/-- The launch's configuration: one call, on two SparseCores of sixteen tiles. -/
abbrev K : SparseCore.Cfg τ sig (ΛP (F := F)) 1 := sc (F := F)
/-- The table of its bodies. -/
abbrev D [FloatOps F] : Defs nD τ sig (Elt F) (ΛP (F := F)) := Pipeline.defs pcfgs defs₀
/-- No loop of the program needs a variant. -/
abbrev 𝒱₀ : Variants := Variants.none
/-- The same, lifted to the program's labels. -/
abbrev 𝒱 : Variants := 𝒱₀.lift

/-- The launch's semaphores and buffers are as its handshakes need them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' resources. -/
abbrev UH : Type := URounds (GSem nD τ sig) ℕ
/-- With the counters the copies in flight take theirs from. -/
abbrev UU : Type := UH × Counters

/-- Where the handshakes' resources sit among all. -/
abbrev EH : Emb UH (MT nD τ sig (HIx 1) (Elt F) ℕ UU ℕ) := embL

/-- The input's location. -/
abbrev xLoc (d : Dev nD) : Loc nD τ sig := (SparseCore.T d).loc main_arg0
/-- The output's location. -/
abbrev oLoc (d : Dev nD) : Loc nD τ sig := (SparseCore.T d).loc main_v0
/-- SparseCore `c`'s shared memory, as a device buffer and as a location. -/
abbrev commonRef (c : Fin τ.nSC) : DevRef τ sig := ⟨.shared, ⟨0, by decide⟩, c⟩
/-- And as a location. -/
abbrev commonLoc (d : Dev nD) (c : Fin τ.nSC) : Loc nD τ sig := (d, commonRef c)

/-- The SparseCore of worker `L`, and its tile. -/
abbrev cV (L : grid0.Coords) : Fin τ.nSC := (L 0).castLE hcore0
/-- Worker `L`'s tile. -/
abbrev jV (L : grid0.Coords) : Fin τ.nSub := (L 1).castLE hsub0
/-- Worker `L`'s thread. -/
abbrev worker (d : Dev nD) (L : grid0.Coords) : Thread nD τ := V d (cV L) (jV L)

/-! ## The value -/

/-- The two arrays have equally many elements. -/
theorem numel_out : S4x4096x2048.numel = S16384x2048.numel := by decide

/-- What the output is to hold: the input's elements in the same row-major order. -/
def gathered (x : S16384x2048.Idx → Elt F .f32) : S4x4096x2048.Idx → Elt F .f32 :=
  fun i => x (Shape.reshapeEquiv numel_out i)

/-- Where element `y` of chunk `n` of worker `L` sits in the input, and in the output. -/
def inIdx (L : grid0.Coords) (n : Nat) (y : S8x2048.Idx) : S16384x2048.Idx := (inChunk L n).view.emb y
/-- And in the output. -/
def outIdx (L : grid0.Coords) (n : Nat) (y : S8x2048.Idx) : S4x4096x2048.Idx := (outChunk L n).view.emb y

/-- Its coordinates in the output. -/
theorem outIdx_val (L : grid0.Coords) (n : Nat) (y : S8x2048.Idx) :
    (outIdx L n y 0).val = (2 * (L 1).val + (L 0).val) / 8
      ∧ (outIdx L n y 1).val = 512 * ((2 * (L 1).val + (L 0).val) % 8) + 8 * (n % 64) + (y 0).val
      ∧ (outIdx L n y 2).val = (y 1).val := by
  have e : outIdx L n y
      = (Rect.unit (s := S4x4096x2048) (writeAt L n) S1x8x2048.size (writeAt_inb L n)).emb
          (Shape.reshapeEquiv squeezes_S1x8x2048_S8x2048.numel_eq y) := rfl
  have e' : Shape.reshapeEquiv squeezes_S1x8x2048_S8x2048.numel_eq y = (Fin.cons ⟨0, Nat.one_pos⟩ y : S1x8x2048.Idx) :=
    Shape.reshapeEquiv_cons_one (d := ![8, 2048]) _ y
  rw [e, e']
  refine ⟨?_, ?_, ?_⟩
  · show (2 * (L 1).val + (L 0).val) / 8 + 1 * 0 = _; omega
  · show 512 * ((2 * (L 1).val + (L 0).val) % 8) + 8 * (n % 64) + 1 * (y 0).val = _; omega
  · show 0 + 1 * (y 1).val = _; omega

/-- Reading a chunk of the gathered output is reading the same chunk of the input. -/
theorem read_gathered (L : grid0.Coords) (n : Nat) (x : S16384x2048.Idx → Elt F .f32) :
    (outChunk L n).view.read (Elt F) (gathered x) = (inChunk L n).view.read (Elt F) x := by
  have hc := core_lt L; have hs := tile_lt L
  funext y
  show x (Shape.reshapeEquiv numel_out (outIdx L n y)) = x (inIdx L n y)
  congr 1
  obtain ⟨h0, h1, h2⟩ := outIdx_val L n y
  apply Shape.reshapeEquiv_eq_of_rowMajor
  have k0 : (inIdx L n y 0).val = 1024 * (L 1).val + 512 * (L 0).val + 8 * (n % 64) + 1 * (y 0).val := rfl
  have k1 : (inIdx L n y 1).val = 0 + 1 * (y 1).val := rfl
  refine (Shape.rowMajor_val_two (d := ![16384, 2048]) _).trans ((?_ : _ = _).trans (Shape.rowMajor_val_three (d := ![4, 4096, 2048]) _).symm)
  show (inIdx L n y 0).val * 2048 + (inIdx L n y 1).val
    = ((outIdx L n y 0).val * 4096 + (outIdx L n y 1).val) * 2048 + (outIdx L n y 2).val
  rw [h0, h1, h2, k0, k1]
  omega

/-- Contents that read the input's chunk through the output's chunk are, on it, the gathered output. -/
theorem eq_gathered_of_read {L : grid0.Coords} {n : Nat} {x : S16384x2048.Idx → Elt F .f32} {f : S4x4096x2048.Idx → Elt F .f32}
    (h : (outChunk L n).view.read (Elt F) f = (inChunk L n).view.read (Elt F) x) :
    ∀ i ∈ outSet L n, f i = gathered x i := by
  intro i hi
  obtain ⟨y, -, rfl⟩ := Finset.mem_map.mp hi
  exact congrFun (h.trans (read_gathered L n x).symm) y

end Cert.Proof
-- ==== Proof.Steps.lean ====
/-
  One worker's moves, each as a rule of the program logic: what it holds before and after a move. A slot is free, or a
  read of a chunk into it is in flight, or a write of a chunk out of it is; the ledger keeps the chunks that are not in
  a slot: those already written and those still to be read.
-/
module

public import proofs.«01_k».proof.Proof.Base
public import Idealize.SL.BI.BigOpNat

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.ShloMosaic.Transfers (Flight MayWaits)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A slot: one chunk of memory, the semaphore its reads signal, and the one its writes signal. -/
structure Slot (sp : Space) where
  mem : Memref sig .scVector sp S8x2048 .f32
  rd : DmaSem sig
  wr : DmaSem sig

variable [FloatOps F]
variable (m : (ℓ : Loc nD τ sig) → Buf (Elt F) ℓ) (d : Dev nD) (L : grid0.Coords)
variable (O : CellTallies nD τ sig (HIx 1)) (W : Waits sig (HIx 1))

/-! ## What is held -/

/-- The counters of the copies in flight. -/
abbrev EC : UEmb Counters 𝕄 := countersEmb

/-- Chunk `n` of the input, at what the launch found there. -/
abbrev inPt (n : Nat) : sProp 𝕄 := xLoc d ↦[inSet L n]{fullShare} m (xLoc d)
/-- Chunk `n` of the output, at contents `f`. -/
abbrev outPt (n : Nat) (f : Buf (Elt F) (oLoc d)) : sProp 𝕄 := oLoc d ↦[outSet L n]{fullShare} f
/-- Chunk `n` before it is moved: the input's, and the output's as the launch found it. -/
def Pend (n : Nat) : sProp 𝕄 := iprop(inPt m d L n ∗ outPt d L n (m (oLoc d)))
/-- Chunk `n` once moved: the output holds the gathered input there. -/
def Moved (n : Nat) : sProp 𝕄 := iprop(inPt m d L n ∗ outPt d L n (gathered (m (xLoc d))))

variable {sp : Space} (s : Slot sp)

/-- The slot's memory at contents `f`. -/
abbrev slotPt (f : Buf (Elt F) (s.mem.view.loc (worker d L))) : sProp 𝕄 := s.mem.view.loc (worker d L) ↦[s.mem.view.set]{fullShare} f
/-- The slot's memory holds chunk `n` of the input. -/
def SlotHas (n : Nat) : sProp 𝕄 :=
  iprop(∃ f, slotPt d L s f ∗ ⌜s.mem.view.read (Elt F) f = (inChunk L n).view.read (Elt F) (m (xLoc d))⌝)
/-- The slot is free: its memory at some contents, its two semaphores at zero. -/
def Free : sProp 𝕄 :=
  iprop((∃ f, slotPt (F := F) d L s f) ∗ semVal (worker d L, SemLoc.dma s.rd) 0 ∗ semVal (worker d L, SemLoc.dma s.wr) 0)
/-- A read of chunk `n` into the slot is in flight. -/
def Reading (n : Nat) : sProp 𝕄 :=
  iprop(Flight EC (worker d L) (.dma s.rd) default s.mem.view.dmaCredit iprop(SlotHas m d L s n ∗ inPt m d L n)
    ∗ outPt d L n (m (oLoc d)) ∗ semVal (worker d L, SemLoc.dma s.wr) 0)
/-- A write of chunk `n` out of the slot is in flight. -/
def Writing (n : Nat) : sProp 𝕄 :=
  iprop(Flight EC (worker d L) (.dma s.wr) default (outChunk L n).view.dmaCredit
      iprop(outPt d L n (gathered (m (xLoc d))) ∗ ∃ f, slotPt (F := F) d L s f)
    ∗ inPt m d L n ∗ semVal (worker d L, SemLoc.dma s.rd) 0)

/-- The worker may wait on its semaphores, and has waited on nothing else but at the index of its own copies. -/
def Debt : sProp 𝕄 :=
  iprop(MayWaits (worker d L) (default : HIx 1) O ∗ ∃ W', ⌜∀ p ∈ W', p ∈ W ∨ p.2 = none⌝ ∗ owes (worker d L) O W')
/-- Chunks `0 … p-1` are moved, chunks `q … 63` not yet begun. -/
def Ledger (p q : Nat) : sProp 𝕄 :=
  iprop((bigSep (Finset.range p) fun n => Moved m d L n) ∗ (bigSep (Finset.Ico q 64) fun n => Pend m d L n) ∗ Debt d L O W)

/-! ## The moves -/

/-- A worker's programs. -/
abbrev WorkerProg (F : FTy → Type) (L : grid0.Coords) (α : Type) : Type 1 := Prog (TpuEff nD τ sig (Elt F) Λ₀ (.scVector ((L 0).castLE hcore0) ((L 1).castLE hsub0))) α

variable {α : Type} {Q : α → sProp (MT nD τ sig (HIx 1) (Elt F) ℕ UU ℕ)}

/-- A wait on one of the worker's copies in flight takes what the copy delivers. -/
theorem wait_flight {sm : DmaSem sig} {N : Nat} {R : sProp 𝕄} {κ : Kind} {sp₁ sp₂ : Space} {s₁ s₂ : Shape} {e₁ e₂ : EltTy}
    {x : Memref sig .scVector sp₁ s₁ e₁} {y : Memref sig κ sp₂ s₂ e₂} {hx : x.view.WordExact} {hy : y.view.WordExact}
    {k : PUnit → WorkerProg F L α} (hN : y.view.dmaCredit = N) :
    iprop(Flight EC (worker d L) (.dma sm) default N R ∗ Debt (F := F) d L O W)
      ⊢ iprop((iprop(R ∗ semVal (worker d L, SemLoc.dma sm) 0 ∗ Debt (F := F) d L O W)
            -∗ wp frame (wpE (defs₀ (F := F)) 𝒱₀ (worker d L) none) Set.univ (k ⟨⟩) Q)
          -∗ wp frame (wpE (defs₀ (F := F)) 𝒱₀ (worker d L) none) Set.univ (.op (.waitDma2 sm x y hx hy) k) Q) := by
  unfold Debt
  iintro ⟨Hf, #Hmw, %W', %hW, Ho⟩ Hk
  iapply (Transfers.wp_waitLocalO EC 𝒱₀ (worker d L) none (default : HIx 1) hN) $$ [Hf Ho]
  · isplitl [Hf]; · iexact Hf
    isplitl [Ho]; · iexact Ho
    iapply (Transfers.MayWaits.elim (.dma sm)) $$ Hmw
  iintro ⟨HR, Hs, Ho⟩
  iapply Hk
  isplitl [HR]; · iexact HR
  isplitl [Hs]; · iexact Hs
  isplitr; · iexact Hmw
  iexists _
  isplitr; swap; · iexact Ho
  ipureintro
  intro p hp
  rcases Finset.mem_insert.mp hp with hp | hp
  · exact .inr (hp ▸ rfl)
  · exact hW p hp

/-- A copy of one chunk signals a positive amount. -/
theorem dmaCredit_slot_pos {sp' : Space} (y : Memref sig .scVector sp' S8x2048 .f32) : 0 < y.view.dmaCredit :=
  View.dmaCredit_pos y.view (show 0 < S8x2048.numel by decide)

/-- Starting the read of chunk `q`, the next of the ledger, into a free slot. -/
theorem start_read {p q : Nat} (hq : q < 64) {x : Memref sig .scVector .hbm S8x2048 .f32} {y : Memref sig .scVector sp S8x2048 .f32}
    (ex : x = inChunk L q) (ey : y = s.mem) {hx : x.view.WordExact} {hy : y.view.WordExact}
    {hs : DmaTarget.Typed (nD := nD) (.hbm) (SemLoc.dma s.rd) (.here y : DmaTarget nD τ sig (worker d L).2 sp S8x2048 .f32)} {k : PUnit → WorkerProg F L α} :
    iprop(Free (F := F) d L s ∗ Ledger m d L O W p q)
      ⊢ iprop((iprop(Reading m d L s q ∗ Ledger m d L O W p (q + 1))
            -∗ wp frame (wpE (defs₀ (F := F)) 𝒱₀ (worker d L) none) Set.univ (k ⟨⟩) Q)
          -∗ wp frame (wpE (defs₀ (F := F)) 𝒱₀ (worker d L) none) Set.univ
              (.op (.enqueueDmaAs x (.here y) .same (.dma s.rd) hx hy hs) k) Q) := by
  subst ex; subst ey
  unfold Free Ledger Reading
  rw [bigSep_Ico_succ_bot hq]
  unfold Pend
  iintro ⟨⟨⟨%f, Hs⟩, Hr, Hw⟩, Hd, ⟨⟨Hx, Ho⟩, Hp⟩, Hb⟩ Hk
  iapply (Transfers.wp_dmaLocal EC 𝒱₀ (worker d L) none (default : HIx 1) s.mem.view.dmaCredit (View.amount_dma ..)
    (dmaCredit_slot_pos _) (Finset.Subset.refl _)) $$ [Hx Hs Hr]
  · isplitl [Hx]; · iexact Hx
    isplitl [Hs]; · iexact Hs
    iexact Hr
  iintro Hf
  iapply Hk
  isplitl [Hf Ho Hw]
  · isplitl [Hf]
    · iapply (Transfers.Flight_mono EC (worker d L) (?_ : _ ⊢ iprop(SlotHas m d L s q ∗ inPt m d L q))) $$ Hf
      unfold SlotHas
      iintro ⟨Hs, Hx⟩
      isplitl [Hs]
      · iexists _
        isplitl [Hs]; · iexact Hs
        ipureintro
        exact View.read_write_univ ..
      · iexact Hx
    isplitl [Ho]; · iexact Ho
    iexact Hw
  isplitl [Hd]; · iexact Hd
  isplitl [Hp]; · iexact Hp
  iexact Hb

/-- The read of chunk `n` has come in, and its write out of the same slot is started. -/
theorem turn {p q n : Nat} {sp₁ : Space} {s₁ : Shape} {e₁ : EltTy} {x : Memref sig .scVector sp₁ s₁ e₁}
    {y y' : Memref sig .scVector sp S8x2048 .f32} {o : Memref sig .scVector .hbm S8x2048 .f32}
    (ey : y = s.mem) (ey' : y' = s.mem) (eo : o = outChunk L n)
    {hx : x.view.WordExact} {hy : y.view.WordExact} {hy' : y'.view.WordExact} {ho : o.view.WordExact}
    {hs : DmaTarget.Typed (nD := nD) sp (SemLoc.dma s.wr) (.here o : DmaTarget nD τ sig (worker d L).2 .hbm S8x2048 .f32)} {k : PUnit → WorkerProg F L α} :
    iprop(Reading m d L s n ∗ Ledger m d L O W p q)
      ⊢ iprop((iprop(Writing m d L s n ∗ Ledger m d L O W p q)
            -∗ wp frame (wpE (defs₀ (F := F)) 𝒱₀ (worker d L) none) Set.univ (k ⟨⟩) Q)
          -∗ wp frame (wpE (defs₀ (F := F)) 𝒱₀ (worker d L) none) Set.univ
              (.op (.waitDma2 s.rd x y hx hy) fun _ => .op (.enqueueDmaAs y' (.here o) .same (.dma s.wr) hy' ho hs) k) Q) := by
  subst ey; subst ey'; subst eo
  unfold Reading Ledger Writing
  iintro ⟨⟨Hf, Ho, Hw⟩, Hd, Hp, Hb⟩ Hk
  iapply (wait_flight d L O W (k := fun _ => .op (.enqueueDmaAs s.mem (.here (outChunk L n)) .same (.dma s.wr) hy' ho hs) k) rfl) $$ [Hf Hb]
  · isplitl [Hf]; · iexact Hf
    iexact Hb
  iintro ⟨⟨Hh, Hx⟩, Hr, Hb⟩
  unfold SlotHas
  icases Hh with ⟨%f, Hs, %hf⟩
  iapply (Transfers.wp_dmaLocal EC 𝒱₀ (worker d L) none (default : HIx 1) (outChunk L n).view.dmaCredit (View.amount_dma ..)
    (dmaCredit_slot_pos _) (Finset.Subset.refl _)) $$ [Hs Ho Hw]
  · isplitl [Hs]; · iexact Hs
    isplitl [Ho]; · iexact Ho
    iexact Hw
  iintro Hf
  iapply Hk
  isplitl [Hf Hx Hr]
  · isplitl [Hf]
    · iapply (Transfers.Flight_mono EC (worker d L) (?_ : _ ⊢ iprop(outPt d L n (gathered (m (xLoc d))) ∗ ∃ f, slotPt (F := F) d L s f))) $$ Hf
      iintro ⟨Ho, Hs⟩
      isplitl [Ho]
      · iapply (Entails.of_eq (?_ : _ = outPt d L n (gathered (m (xLoc d))))) $$ Ho
        exact pointsTo_congr (ℓ := oLoc d) (eq_gathered_of_read ((View.read_write_univ ..).trans hf))
      · iexists _; iexact Hs
    isplitl [Hx]; · iexact Hx
    iexact Hr
  isplitl [Hd]; · iexact Hd
  isplitl [Hp]; · iexact Hp
  iexact Hb

/-- The write of chunk `p`, the next of the ledger to be done, has gone out, and the slot is free. -/
theorem wait_write {p q j : Nat} {sp₁ : Space} {s₁ : Shape} {e₁ : EltTy} {x : Memref sig .scVector sp₁ s₁ e₁}
    {o : Memref sig .scVector .hbm S8x2048 .f32} (eo : o = outChunk L j)
    {hx : x.view.WordExact} {ho : o.view.WordExact} {k : PUnit → WorkerProg F L α} :
    iprop(Writing m d L s p ∗ Ledger m d L O W p q)
      ⊢ iprop((iprop(Free (F := F) d L s ∗ Ledger m d L O W (p + 1) q)
            -∗ wp frame (wpE (defs₀ (F := F)) 𝒱₀ (worker d L) none) Set.univ (k ⟨⟩) Q)
          -∗ wp frame (wpE (defs₀ (F := F)) 𝒱₀ (worker d L) none) Set.univ (.op (.waitDma2 s.wr x o hx ho) k) Q) := by
  subst eo
  unfold Writing Ledger Free
  rw [bigSep_range_succ]
  unfold Moved
  iintro ⟨⟨Hf, Hx, Hr⟩, Hd, Hp, Hb⟩ Hk
  iapply (wait_flight d L O W (k := k) rfl) $$ [Hf Hb]
  · isplitl [Hf]; · iexact Hf
    iexact Hb
  iintro ⟨⟨Ho, Hs⟩, Hw, Hb⟩
  iapply Hk
  isplitl [Hs Hr Hw]
  · isplitl [Hs]; · iexact Hs
    isplitl [Hr]; · iexact Hr
    iexact Hw
  isplitl [Hd Hx Ho]
  · isplitl [Hx Ho]
    · isplitl [Hx]; · iexact Hx
      iexact Ho
    iexact Hd
  isplitl [Hp]; · iexact Hp
  iexact Hb

variable {sp' : Space} (s' : Slot sp')

/-- One step of the steady state: chunk `p + 4`'s read has come in and its write is started; the write of chunk `p`,
    four steps before, has gone out of another slot, and the read of chunk `p + 8` is started into that. -/
theorem step {p j : Nat} (hp : p + 8 < 64) {sp₁ sp₂ : Space} {s₁ s₂ : Shape} {e₁ e₂ : EltTy}
    {x₁ : Memref sig .scVector sp₁ s₁ e₁} {y y' : Memref sig .scVector sp S8x2048 .f32} {o : Memref sig .scVector .hbm S8x2048 .f32}
    {x₂ : Memref sig .scVector sp₂ s₂ e₂} {o' x : Memref sig .scVector .hbm S8x2048 .f32} {z : Memref sig .scVector sp' S8x2048 .f32}
    (ey : y = s.mem) (ey' : y' = s.mem) (eo : o = outChunk L (p + 4)) (eo' : o' = outChunk L j) (ex : x = inChunk L (p + 8)) (ez : z = s'.mem)
    {hx₁ : x₁.view.WordExact} {hy : y.view.WordExact} {hy' : y'.view.WordExact} {ho : o.view.WordExact}
    {hs : DmaTarget.Typed (nD := nD) sp (SemLoc.dma s.wr) (.here o : DmaTarget nD τ sig (worker d L).2 .hbm S8x2048 .f32)}
    {hx₂ : x₂.view.WordExact} {ho' : o'.view.WordExact} {hx : x.view.WordExact} {hz : z.view.WordExact}
    {hs' : DmaTarget.Typed (nD := nD) (.hbm) (SemLoc.dma s'.rd) (.here z : DmaTarget nD τ sig (worker d L).2 sp' S8x2048 .f32)}
    {k : PUnit → WorkerProg F L α} :
    iprop(Reading m d L s (p + 4) ∗ Writing m d L s' p ∗ Ledger m d L O W p (p + 8))
      ⊢ iprop((iprop(Writing m d L s (p + 4) ∗ Reading m d L s' (p + 8) ∗ Ledger m d L O W (p + 1) (p + 9))
            -∗ wp frame (wpE (defs₀ (F := F)) 𝒱₀ (worker d L) none) Set.univ (k ⟨⟩) Q)
          -∗ wp frame (wpE (defs₀ (F := F)) 𝒱₀ (worker d L) none) Set.univ
              (.op (.waitDma2 s.rd x₁ y hx₁ hy) fun _ => .op (.enqueueDmaAs y' (.here o) .same (.dma s.wr) hy' ho hs) fun _ =>
                .op (.waitDma2 s'.wr x₂ o' hx₂ ho') fun _ => .op (.enqueueDmaAs x (.here z) .same (.dma s'.rd) hx hz hs') k) Q) := by
  iintro ⟨Hr, Hw, Hl⟩ Hk
  iapply (turn m d L O W s ey ey' eo (k := fun _ => .op (.waitDma2 s'.wr x₂ o' hx₂ ho') fun _ => .op (.enqueueDmaAs x (.here z) .same (.dma s'.rd) hx hz hs') k)) $$ [Hr Hl]
  · isplitl [Hr]; · iexact Hr
    iexact Hl
  iintro ⟨Hr, Hl⟩
  iapply (wait_write m d L O W s' eo' (k := fun _ => .op (.enqueueDmaAs x (.here z) .same (.dma s'.rd) hx hz hs') k)) $$ [Hw Hl]
  · isplitl [Hw]; · iexact Hw
    iexact Hl
  iintro ⟨Hw, Hl⟩
  iapply (start_read m d L O W s' hp ex ez (k := k)) $$ [Hw Hl]
  · isplitl [Hw]; · iexact Hw
    iexact Hl
  iintro ⟨Hw, Hl⟩
  iapply Hk
  isplitl [Hr]; · iexact Hr
  isplitl [Hw]; · iexact Hw
  iexact Hl

end Cert.Proof
-- ==== Proof.Loop.lean ====
/-
  The loop's body: one trip moves eight chunks and leaves the eight slots as it found them, eight chunks on.
-/
module

public import proofs.«01_k».proof.Proof.Steps
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (m : (ℓ : Loc nD τ sig) → Buf (Elt F) ℓ) (d : Dev nD) (L : grid0.Coords)
variable (O : CellTallies nD τ sig (HIx 1)) (W : Waits sig (HIx 1))

/-- The slots in the tile's own memory. -/
def own (b : Fin 4) : Slot .vmem := ⟨ownQuarter b, (⟨b.val, by omega⟩ : Fin 16), (⟨8 + b.val, by omega⟩ : Fin 16)⟩
/-- The slots in the tile's row of the shared memory. -/
def com (L : grid0.Coords) (b : Fin 4) : Slot .shared :=
  ⟨commonQuarter (L 1) b, (⟨4 + b.val, by omega⟩ : Fin 16), (⟨12 + b.val, by omega⟩ : Fin 16)⟩

/-- The steady state `x`: chunks `x … x+3` on their way out of the shared slots, `x+4 … x+7` on their way into the own. -/
def Steady (x : Nat) : sProp (MT nD τ sig (HIx 1) (Elt F) ℕ UU ℕ) :=
  iprop(Reading m d L (own 0) (x + 4) ∗ Reading m d L (own 1) (x + 5) ∗ Reading m d L (own 2) (x + 6) ∗ Reading m d L (own 3) (x + 7)
    ∗ Writing m d L (com L 0) x ∗ Writing m d L (com L 1) (x + 1) ∗ Writing m d L (com L 2) (x + 2) ∗ Writing m d L (com L 3) (x + 3)
    ∗ Ledger m d L O W x (x + 8))

set_option sl_open_parts.maxParts 60 in
set_option maxHeartbeats 4000000 in
/-- One trip of the loop takes the steady state eight chunks on. -/
theorem loop_body (t : Fin k0_t1_loop.trips) (v29 v30 : BitVec 32) (x : Nat) (hx : 8 * t.val + 4 = x) :
    Steady m d L O W x ⊢ wp frame (wpE (defs₀ (F := F)) 𝒱₀ (worker d L) none) Set.univ
     (k0_t1_body (F := F) L inMem (Memref.isWhole_whole _) outMem (Memref.isWhole_whole _) ownMem (Memref.isWhole_whole _) commonMem (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 v29 v30 t ⟨⟩)
     fun _ => Steady m d L O W (x + 8) := by
  have ht : t.val < 6 := lt_of_lt_of_eq t.isLt trips_eq
  have hR : ∀ r : Fin 8, k0_off10 L t (BitVec.ofNat 32 r.val) = readAt L (x + r.val + 8) := fun r => by
    rw [readAt_loop]; congr 1; omega
  have hW : ∀ r : Fin 8, k0_off8 L t (BitVec.ofNat 32 r.val) = writeAt L (x + r.val + 4) := fun r => by
    rw [writeAt_loop]; congr 1; omega
  unfold k0_t1_body Steady
  sl_open_parts
  simp only [Prog.bind_lift, Prog.bind_op, Prog.bind_ret, Prog.pure_eq_ret, bind_assoc]
  iintro ⟨A0, A1, A2, A3, B0, B1, B2, B3, H⟩
  iapply (step m d L O W (own 0) (com L 0) (p := x) (by omega) rfl rfl (slice_outChunk (hW 0)) (slice_outChunk (hW 0))
    (slice_inChunk (hR 0)) (slice_commonQuarter (k0_off9_eq L))) $$ [A0 B0 H]
  · isplitl [A0]; · iexact A0
    isplitl [B0]; · iexact B0
    iexact H
  iintro ⟨A0, B0, H⟩
  iapply (step m d L O W (own 1) (com L 1) (p := x + 1) (by omega) rfl rfl (slice_outChunk (hW 1)) (slice_outChunk (hW 1))
    (slice_inChunk (hR 1)) (slice_commonQuarter (k0_off11_eq L))) $$ [A1 B1 H]
  · isplitl [A1]; · iexact A1
    isplitl [B1]; · iexact B1
    iexact H
  iintro ⟨A1, B1, H⟩
  iapply (step m d L O W (own 2) (com L 2) (p := x + 2) (by omega) rfl rfl (slice_outChunk (hW 2)) (slice_outChunk (hW 2))
    (slice_inChunk (hR 2)) (slice_commonQuarter (k0_off12_eq L))) $$ [A2 B2 H]
  · isplitl [A2]; · iexact A2
    isplitl [B2]; · iexact B2
    iexact H
  iintro ⟨A2, B2, H⟩
  iapply (step m d L O W (own 3) (com L 3) (p := x + 3) (by omega) rfl rfl (slice_outChunk (hW 3)) (slice_outChunk (hW 3))
    (slice_inChunk (hR 3)) (slice_commonQuarter (k0_off13_eq L))) $$ [A3 B3 H]
  · isplitl [A3]; · iexact A3
    isplitl [B3]; · iexact B3
    iexact H
  iintro ⟨A3, B3, H⟩
  iapply (step m d L O W (com L 0) (own 0) (p := x + 4) (by omega) (slice_commonQuarter (k0_off9_eq L)) (slice_commonQuarter (k0_off9_eq L)) (slice_outChunk (hW 4)) (slice_outChunk (hW 4))
    (slice_inChunk (hR 4)) rfl) $$ [B0 A0 H]
  · isplitl [B0]; · iexact B0
    isplitl [A0]; · iexact A0
    iexact H
  iintro ⟨B0, A0, H⟩
  iapply (step m d L O W (com L 1) (own 1) (p := x + 5) (by omega) (slice_commonQuarter (k0_off11_eq L)) (slice_commonQuarter (k0_off11_eq L)) (slice_outChunk (hW 5)) (slice_outChunk (hW 5))
    (slice_inChunk (hR 5)) rfl) $$ [B1 A1 H]
  · isplitl [B1]; · iexact B1
    isplitl [A1]; · iexact A1
    iexact H
  iintro ⟨B1, A1, H⟩
  iapply (step m d L O W (com L 2) (own 2) (p := x + 6) (by omega) (slice_commonQuarter (k0_off12_eq L)) (slice_commonQuarter (k0_off12_eq L)) (slice_outChunk (hW 6)) (slice_outChunk (hW 6))
    (slice_inChunk (hR 6)) rfl) $$ [B2 A2 H]
  · isplitl [B2]; · iexact B2
    isplitl [A2]; · iexact A2
    iexact H
  iintro ⟨B2, A2, H⟩
  iapply (step m d L O W (com L 3) (own 3) (p := x + 7) (by omega) (slice_commonQuarter (k0_off13_eq L)) (slice_commonQuarter (k0_off13_eq L)) (slice_outChunk (hW 7)) (slice_outChunk (hW 7))
    (slice_inChunk (hR 7)) rfl) $$ [B3 A3 H]
  · isplitl [B3]; · iexact B3
    isplitl [A3]; · iexact A3
    iexact H
  iintro ⟨B3, A3, H⟩
  iapply (le_wp_ret (wpE := wpE (defs₀ (F := F)) 𝒱₀ (worker d L) none) (E := Set.univ))
  iframe
end Cert.Proof
-- ==== Proof.Run.lean ====
/-
  One worker's whole run: from eight free slots and sixty-four chunks to move, to eight free slots and sixty-four chunks
  moved.
-/
module

public import proofs.«01_k».proof.Proof.Loop

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable (m : (ℓ : Loc nD τ sig) → Buf (Elt F) ℓ) (d : Dev nD) (L : grid0.Coords)
variable (O : CellTallies nD τ sig (HIx 1)) (W : Waits sig (HIx 1))

/-- All eight slots are free. -/
def AllFree : sProp (MT nD τ sig (HIx 1) (Elt F) ℕ UU ℕ) :=
  iprop(Free (F := F) d L (own 0) ∗ Free (F := F) d L (own 1) ∗ Free (F := F) d L (own 2) ∗ Free (F := F) d L (own 3)
    ∗ Free (F := F) d L (com L 0) ∗ Free (F := F) d L (com L 1) ∗ Free (F := F) d L (com L 2) ∗ Free (F := F) d L (com L 3))

set_option sl_open_parts.maxParts 60 in
set_option maxHeartbeats 4000000 in
/-- A worker moves its sixty-four chunks. -/
theorem worker_run :
    iprop(AllFree (F := F) d L ∗ Ledger m d L O W 0 0)
      ⊢ wp frame (wpE (defs₀ (F := F)) 𝒱₀ (worker d L) none) Set.univ
     (cc0__gather_view (F := F) L inMem (Memref.isWhole_whole _) outMem (Memref.isWhole_whole _) ownMem (Memref.isWhole_whole _) commonMem (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17)
     fun _ => iprop(AllFree (F := F) d L ∗ Ledger m d L O W 64 64) := by
  simp only [cc0__gather_view_eq_skeleton]; unfold cc0__gather_view_skel AllFree
  sl_open_parts
  simp only [Prog.bind_lift, Prog.bind_op, Prog.bind_ret, Prog.pure_eq_ret, bind_assoc]
  iintro ⟨⟨A0, A1, A2, A3, B0, B1, B2, B3⟩, H⟩
  iapply (start_read m d L O W (own 0) (q := 0) (by omega) (slice_inChunk (readAt_straight L 0)) rfl) $$ [A0 H]
  · iframe
  iintro ⟨A0, H⟩
  iapply (start_read m d L O W (own 1) (q := 1) (by omega) (slice_inChunk (readAt_straight L 1)) rfl) $$ [A1 H]
  · iframe
  iintro ⟨A1, H⟩
  iapply (start_read m d L O W (own 2) (q := 2) (by omega) (slice_inChunk (readAt_straight L 2)) rfl) $$ [A2 H]
  · iframe
  iintro ⟨A2, H⟩
  iapply (start_read m d L O W (own 3) (q := 3) (by omega) (slice_inChunk (readAt_straight L 3)) rfl) $$ [A3 H]
  · iframe
  iintro ⟨A3, H⟩
  iapply (turn m d L O W (own 0) (n := 0) rfl rfl (slice_outChunk (writeAt_straight L 0))) $$ [A0 H]
  · iframe
  iintro ⟨A0, H⟩
  iapply (start_read m d L O W (com L 0) (q := 4) (by omega) (slice_inChunk (readAt_straight L 4)) (slice_commonQuarter (k0_off3_eq L))) $$ [B0 H]
  · iframe
  iintro ⟨B0, H⟩
  iapply (turn m d L O W (own 1) (n := 1) rfl rfl (slice_outChunk (writeAt_straight L 1))) $$ [A1 H]
  · iframe
  iintro ⟨A1, H⟩
  iapply (start_read m d L O W (com L 1) (q := 5) (by omega) (slice_inChunk (readAt_straight L 5)) (slice_commonQuarter (k0_off4_eq L))) $$ [B1 H]
  · iframe
  iintro ⟨B1, H⟩
  iapply (turn m d L O W (own 2) (n := 2) rfl rfl (slice_outChunk (writeAt_straight L 2))) $$ [A2 H]
  · iframe
  iintro ⟨A2, H⟩
  iapply (start_read m d L O W (com L 2) (q := 6) (by omega) (slice_inChunk (readAt_straight L 6)) (slice_commonQuarter (k0_off5_eq L))) $$ [B2 H]
  · iframe
  iintro ⟨B2, H⟩
  iapply (turn m d L O W (own 3) (n := 3) rfl rfl (slice_outChunk (writeAt_straight L 3))) $$ [A3 H]
  · iframe
  iintro ⟨A3, H⟩
  iapply (start_read m d L O W (com L 3) (q := 7) (by omega) (slice_inChunk (readAt_straight L 7)) (slice_commonQuarter (k0_off6_eq L))) $$ [B3 H]
  · iframe
  iintro ⟨B3, H⟩
  iapply (step m d L O W (com L 0) (own 0) (p := 0) (by omega) (slice_commonQuarter (k0_off3_eq L)) (slice_commonQuarter (k0_off3_eq L)) (slice_outChunk (writeAt_straight L 4)) (slice_outChunk (writeAt_straight L 0)) (slice_inChunk (readAt_straight L 8)) rfl) $$ [B0 A0 H]
  · iframe
  iintro ⟨B0, A0, H⟩
  iapply (step m d L O W (com L 1) (own 1) (p := 1) (by omega) (slice_commonQuarter (k0_off4_eq L)) (slice_commonQuarter (k0_off4_eq L)) (slice_outChunk (writeAt_straight L 5)) (slice_outChunk (writeAt_straight L 1)) (slice_inChunk (readAt_straight L 9)) rfl) $$ [B1 A1 H]
  · iframe
  iintro ⟨B1, A1, H⟩
  iapply (step m d L O W (com L 2) (own 2) (p := 2) (by omega) (slice_commonQuarter (k0_off5_eq L)) (slice_commonQuarter (k0_off5_eq L)) (slice_outChunk (writeAt_straight L 6)) (slice_outChunk (writeAt_straight L 2)) (slice_inChunk (readAt_straight L 10)) rfl) $$ [B2 A2 H]
  · iframe
  iintro ⟨B2, A2, H⟩
  iapply (step m d L O W (com L 3) (own 3) (p := 3) (by omega) (slice_commonQuarter (k0_off6_eq L)) (slice_commonQuarter (k0_off6_eq L)) (slice_outChunk (writeAt_straight L 7)) (slice_outChunk (writeAt_straight L 3)) (slice_inChunk (readAt_straight L 11)) rfl) $$ [B3 A3 H]
  · iframe
  iintro ⟨B3, A3, H⟩
  iapply (Scf.wp_for_bind (I := fun t _ => Steady m d L O W (8 * t + 4))
    (hbody := fun t _ => loop_body m d L O W t _ _ (8 * t.val + 4) rfl)) $$ [A0 A1 A2 A3 B0 B1 B2 B3 H]
  · unfold Steady
    iframe
  rw [show Scf.trips _ _ _ = 6 from trips_eq]
  unfold Steady
  iintro %u ⟨A0, A1, A2, A3, B0, B1, B2, B3, H⟩
  iapply (step m d L O W (own 0) (com L 0) (p := 52) (by omega) rfl rfl (slice_outChunk (writeAt_straight L 56)) (slice_outChunk (writeAt_straight L 52)) (slice_inChunk (readAt_straight L 60)) (slice_commonQuarter (k0_off3_eq L))) $$ [A0 B0 H]
  · iframe
  iintro ⟨A0, B0, H⟩
  iapply (step m d L O W (own 1) (com L 1) (p := 53) (by omega) rfl rfl (slice_outChunk (writeAt_straight L 57)) (slice_outChunk (writeAt_straight L 53)) (slice_inChunk (readAt_straight L 61)) (slice_commonQuarter (k0_off4_eq L))) $$ [A1 B1 H]
  · iframe
  iintro ⟨A1, B1, H⟩
  iapply (step m d L O W (own 2) (com L 2) (p := 54) (by omega) rfl rfl (slice_outChunk (writeAt_straight L 58)) (slice_outChunk (writeAt_straight L 54)) (slice_inChunk (readAt_straight L 62)) (slice_commonQuarter (k0_off5_eq L))) $$ [A2 B2 H]
  · iframe
  iintro ⟨A2, B2, H⟩
  iapply (step m d L O W (own 3) (com L 3) (p := 55) (by omega) rfl rfl (slice_outChunk (writeAt_straight L 59)) (slice_outChunk (writeAt_straight L 55)) (slice_inChunk (readAt_straight L 63)) (slice_commonQuarter (k0_off6_eq L))) $$ [A3 B3 H]
  · iframe
  iintro ⟨A3, B3, H⟩
  iapply (turn m d L O W (com L 0) (n := 60) (slice_commonQuarter (k0_off3_eq L)) (slice_commonQuarter (k0_off3_eq L)) (slice_outChunk (writeAt_straight L 60))) $$ [B0 H]
  · iframe
  iintro ⟨B0, H⟩
  iapply (wait_write m d L O W (own 0) (p := 56) (slice_outChunk (writeAt_straight L 56))) $$ [A0 H]
  · iframe
  iintro ⟨A0, H⟩
  iapply (turn m d L O W (com L 1) (n := 61) (slice_commonQuarter (k0_off4_eq L)) (slice_commonQuarter (k0_off4_eq L)) (slice_outChunk (writeAt_straight L 61))) $$ [B1 H]
  · iframe
  iintro ⟨B1, H⟩
  iapply (wait_write m d L O W (own 1) (p := 57) (slice_outChunk (writeAt_straight L 57))) $$ [A1 H]
  · iframe
  iintro ⟨A1, H⟩
  iapply (turn m d L O W (com L 2) (n := 62) (slice_commonQuarter (k0_off5_eq L)) (slice_commonQuarter (k0_off5_eq L)) (slice_outChunk (writeAt_straight L 62))) $$ [B2 H]
  · iframe
  iintro ⟨B2, H⟩
  iapply (wait_write m d L O W (own 2) (p := 58) (slice_outChunk (writeAt_straight L 58))) $$ [A2 H]
  · iframe
  iintro ⟨A2, H⟩
  iapply (turn m d L O W (com L 3) (n := 63) (slice_commonQuarter (k0_off6_eq L)) (slice_commonQuarter (k0_off6_eq L)) (slice_outChunk (writeAt_straight L 63))) $$ [B3 H]
  · iframe
  iintro ⟨B3, H⟩
  iapply (wait_write m d L O W (own 3) (p := 59) (slice_outChunk (writeAt_straight L 59))) $$ [A3 H]
  · iframe
  iintro ⟨A3, H⟩
  iapply (wait_write m d L O W (com L 0) (p := 60) (slice_outChunk (writeAt_straight L 60))) $$ [B0 H]
  · iframe
  iintro ⟨B0, H⟩
  iapply (wait_write m d L O W (com L 1) (p := 61) (slice_outChunk (writeAt_straight L 61))) $$ [B1 H]
  · iframe
  iintro ⟨B1, H⟩
  iapply (wait_write m d L O W (com L 2) (p := 62) (slice_outChunk (writeAt_straight L 62))) $$ [B2 H]
  · iframe
  iintro ⟨B2, H⟩
  iapply (wait_write m d L O W (com L 3) (p := 63) (slice_outChunk (writeAt_straight L 63))) $$ [B3 H]
  · iframe
  iintro ⟨B3, H⟩
  iapply (le_wp_ret (wpE := wpE (defs₀ (F := F)) 𝒱₀ (worker d L) none) (E := Set.univ))
  iframe
end Cert.Proof
-- ==== Proof.Deal.lean ====
/-
  What a tile is launched with, dealt to the eight slots and gathered again: its own memory in quarters, its row of the
  shared memory in quarters, and its sixteen semaphores, two to a slot.
-/
module

public import proofs.«01_k».proof.Proof.Run

@[expose] public section

noncomputable section

namespace Cert.Proof

open Cert.KernelIdeal Cert.KernelIdeal.Gen

open Idealize.ShloMosaic
open Idealize.ShloMosaic.SparseCore (S V T)
open Idealize.ShloMosaic.SparseCore.Cfg (HIx ownBufs ownSems0 ownRefs mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Pieces of an array at contents of their own -/

/-- An array held at some contents is its pieces, each held at some contents. -/
theorem deal_pieces {ℓ : Loc nD τ sig} {I : Type} [DecidableEq I] (A : Finset I) (piece : I → Finset (Idx ℓ))
    (h : ∀ i ∈ A, ∀ j ∈ A, i ≠ j → Disjoint (piece i) (piece j)) {whole : Finset (Idx ℓ)} (hc : A.biUnion piece = whole) :
    iprop(∃ f : Buf (Elt F) ℓ, ℓ ↦[whole]{fullShare} f)
      ⊢ (bigSep A fun i => iprop(∃ f : Buf (Elt F) ℓ, ℓ ↦[piece i]{fullShare} f) : sProp (MT nD τ sig (HIx 1) (Elt F) ℕ UU ℕ)) := by
  subst hc
  iintro ⟨%f, H⟩
  ihave H := (Entails.of_eq (pointsTo_biUnion (q := fullShare) (f := f) A piece h)) $$ H
  iapply (show (bigSep A fun i => iprop(ℓ ↦[piece i]{fullShare} f) : sProp (MT nD τ sig (HIx 1) (Elt F) ℕ UU ℕ))
      ⊢ bigSep A fun i => iprop(∃ f : Buf (Elt F) ℓ, ℓ ↦[piece i]{fullShare} f) from
    bigSep_mono fun i _ => exists_intro (Φ := fun f : Buf (Elt F) ℓ => iprop(ℓ ↦[piece i]{fullShare} f)) f) $$ H

/-- And back. -/
theorem join_pieces {ℓ : Loc nD τ sig} [Nonempty (Buf (Elt F) ℓ)] {I : Type} [DecidableEq I] (A : Finset I)
    (piece : I → Finset (Idx ℓ)) (h : ∀ i ∈ A, ∀ j ∈ A, i ≠ j → Disjoint (piece i) (piece j)) {whole : Finset (Idx ℓ)}
    (hc : A.biUnion piece = whole) :
    (bigSep A fun i => iprop(∃ f : Buf (Elt F) ℓ, ℓ ↦[piece i]{fullShare} f) : sProp (MT nD τ sig (HIx 1) (Elt F) ℕ UU ℕ))
      ⊢ iprop(∃ f : Buf (Elt F) ℓ, ℓ ↦[whole]{fullShare} f) := by
  subst hc
  refine (bigSep_exists_pi A (fun i (f : Buf (Elt F) ℓ) => iprop(ℓ ↦[piece i]{fullShare} f))).trans ?_
  iintro ⟨%fs, H⟩
  ihave H := (pointsTo_biUnion_join (q := fullShare) A piece fs (Classical.arbitrary _) h) $$ H
  icases H with ⟨%g, -, H⟩
  iexists g; iexact H

omit [FloatOps F] in
/-- A separating product over four. -/
theorem bigSep_four (Φ : Fin 4 → sProp (MT nD τ sig (HIx 1) (Elt F) ℕ UU ℕ)) :
    bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

omit [FloatOps F] in
/-- A separating product over sixteen, four by four. -/
theorem bigSep_sixteen (Φ : Fin 16 → sProp (MT nD τ sig (HIx 1) (Elt F) ℕ UU ℕ)) :
    bigSep Finset.univ Φ
      = iprop((Φ 0 ∗ Φ 1 ∗ Φ 2 ∗ Φ 3) ∗ (Φ 4 ∗ Φ 5 ∗ Φ 6 ∗ Φ 7) ∗ (Φ 8 ∗ Φ 9 ∗ Φ 10 ∗ Φ 11) ∗ (Φ 12 ∗ Φ 13 ∗ Φ 14 ∗ Φ 15)) := by
  rw [bigSep_univ_equiv (finProdFinEquiv : Fin 4 × Fin 4 ≃ Fin 16), bigSep_univ_prod, bigSep_four, bigSep_four, bigSep_four,
    bigSep_four, bigSep_four]
  rfl

/-! ## The quarters -/

/-- The quarters of the tile's own memory do not overlap. -/
theorem own_disjoint : ∀ a ∈ (Finset.univ : Finset (Fin 4)), ∀ b ∈ (Finset.univ : Finset (Fin 4)), a ≠ b → Disjoint (ownSet a) (ownSet b) :=
  fun _ _ _ _ h => Finset.disjoint_left.mpr fun _ hi hj => h (Fin.ext ((mem_ownSet.mp hi).symm.trans (mem_ownSet.mp hj)))

/-- Together they are all of it. -/
theorem own_cover : (Finset.univ : Finset (Fin 4)).biUnion ownSet = Finset.univ := by
  ext i
  simp only [Finset.mem_biUnion, Finset.mem_univ, true_and, iff_true]
  exact ⟨⟨(i 0).val, (i 0).isLt⟩, mem_ownSet.mpr rfl⟩

variable (d : Dev nD) (L : grid0.Coords)

/-- Worker `L`'s tile, and so its row of the shared memory. -/
abbrev sV : Fin 16 := L 1

/-- Quarter `b` of the tile's own memory at some contents. -/
def OwnPiece (b : Fin 4) : sProp (MT nD τ sig (HIx 1) (Elt F) ℕ UU ℕ) :=
  iprop(∃ f : Buf (Elt F) ((worker d L).loc cc0_scratch0), (worker d L).loc cc0_scratch0 ↦[ownSet b]{fullShare} f)
/-- Quarter `b` of row `s` of SparseCore `c`'s shared memory at some contents. -/
def CommonPiece (c : Fin τ.nSC) (s : Fin 16) (b : Fin 4) : sProp (MT nD τ sig (HIx 1) (Elt F) ℕ UU ℕ) :=
  iprop(∃ f : Buf (Elt F) (commonLoc d c), commonLoc d c ↦[commonSet s b]{fullShare} f)
/-- A row of the shared memory, in quarters. -/
def Row (c : Fin τ.nSC) (s : Fin 16) : sProp (MT nD τ sig (HIx 1) (Elt F) ℕ UU ℕ) :=
  bigSep Finset.univ fun b : Fin 4 => CommonPiece (F := F) d c s b
/-- The tile's semaphore `k` at zero. -/
def Sem0 (k : Fin 16) : sProp (MT nD τ sig (HIx 1) (Elt F) ℕ UU ℕ) := semVal (worker d L, SemLoc.dma k) 0

/-- The tile's own memory at some contents. -/
abbrev OwnMem : sProp (MT nD τ sig (HIx 1) (Elt F) ℕ UU ℕ) :=
  iprop(∃ f : Buf (Elt F) ((worker d L).loc cc0_scratch0), (worker d L).loc cc0_scratch0 ↦{fullShare} f)
/-- The other buffers of the tile. -/
abbrev Others : sProp (MT nD τ sig (HIx 1) (Elt F) ℕ UU ℕ) :=
  bigSep ((ownRefs (Proc.scVector (cV L) (jV L))).erase ((Proc.scVector (cV L) (jV L)).devRef cc0_scratch0)) fun b =>
    iprop(∃ f, ((d, b) : Loc nD τ sig) ↦{fullShare} f)

omit [FloatOps F] in
/-- A tile's buffers are its own memory and the rest. -/
theorem ownBufs_eq : (ownBufs (worker d L) : sProp (MT nD τ sig (HIx 1) (Elt F) ℕ UU ℕ)) = iprop(OwnMem d L ∗ Others d L) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
/-- The tile's semaphores, all at zero. -/
theorem ownSems0_eq : (ownSems0 (worker d L) : sProp (MT nD τ sig (HIx 1) (Elt F) ℕ UU ℕ))
    = bigSep Finset.univ fun k : Fin 16 => Sem0 d L k := by
  rw [SparseCore.Cfg.ownSems0_eq, show (Finset.univ.filter fun sm : SemLoc sig => sm.isScoped (worker d L).2.kind)
    = Finset.univ.map ⟨fun k : Fin 16 => SemLoc.dma k, fun _ _ h => SemLoc.dma.inj h⟩ from by
      show (Finset.univ.filter fun sm : SemLoc sig => sm.isScoped .scVector) = _; decide, bigSep_map]
  rfl

/-- The eight slots, piece by piece. -/
theorem allFree_eq : AllFree (F := F) d L =
    iprop((OwnPiece d L 0 ∗ Sem0 d L 0 ∗ Sem0 d L 8) ∗ (OwnPiece d L 1 ∗ Sem0 d L 1 ∗ Sem0 d L 9)
      ∗ (OwnPiece d L 2 ∗ Sem0 d L 2 ∗ Sem0 d L 10) ∗ (OwnPiece d L 3 ∗ Sem0 d L 3 ∗ Sem0 d L 11)
      ∗ (CommonPiece d (cV L) (sV L) 0 ∗ Sem0 d L 4 ∗ Sem0 d L 12) ∗ (CommonPiece d (cV L) (sV L) 1 ∗ Sem0 d L 5 ∗ Sem0 d L 13)
      ∗ (CommonPiece d (cV L) (sV L) 2 ∗ Sem0 d L 6 ∗ Sem0 d L 14) ∗ (CommonPiece d (cV L) (sV L) 3 ∗ Sem0 d L 7 ∗ Sem0 d L 15)) := rfl

/-- The tile's own memory is its quarters. -/
theorem own_deal : OwnMem (F := F) d L ⊢ bigSep Finset.univ fun b : Fin 4 => OwnPiece d L b :=
  deal_pieces (ℓ := (worker d L).loc cc0_scratch0) Finset.univ ownSet own_disjoint own_cover
/-- And the quarters are the tile's own memory. -/
theorem own_join : (bigSep Finset.univ fun b : Fin 4 => OwnPiece d L b) ⊢ OwnMem (F := F) d L :=
  join_pieces (ℓ := (worker d L).loc cc0_scratch0) Finset.univ ownSet own_disjoint own_cover

/-- What a tile holds, dealt to its slots. -/
theorem deal_slots :
    iprop(OwnMem (F := F) d L ∗ Row (F := F) d (cV L) (sV L) ∗ ownSems0 (worker d L)) ⊢ AllFree (F := F) d L := by
  refine (sep_mono_left (own_deal d L)).trans ?_
  unfold Row
  rw [ownSems0_eq, bigSep_sixteen, allFree_eq, bigSep_four, bigSep_four]
  iintro ⟨⟨O0, O1, O2, O3⟩, ⟨C0, C1, C2, C3⟩, ⟨S0, S1, S2, S3⟩, ⟨S4, S5, S6, S7⟩, ⟨S8, S9, S10, S11⟩, ⟨S12, S13, S14, S15⟩⟩
  iframe

/-- The slots all free are what a tile holds. -/
theorem gather_slots :
    AllFree (F := F) d L ⊢ iprop(OwnMem (F := F) d L ∗ Row (F := F) d (cV L) (sV L) ∗ ownSems0 (worker d L)) := by
  have h : AllFree (F := F) d L
      ⊢ iprop((bigSep Finset.univ fun b : Fin 4 => OwnPiece d L b) ∗ Row (F := F) d (cV L) (sV L) ∗ ownSems0 (worker d L)) := by
    unfold Row
    rw [ownSems0_eq, bigSep_sixteen, allFree_eq, bigSep_four, bigSep_four]
    iintro ⟨⟨O0, S0, S8⟩, ⟨O1, S1, S9⟩, ⟨O2, S2, S10⟩, ⟨O3, S3, S11⟩, ⟨C0, S4, S12⟩, ⟨C1, S5, S13⟩, ⟨C2, S6, S14⟩, ⟨C3, S7, S15⟩⟩
    iframe
  exact h.trans (sep_mono_left (own_join d L))

end Cert.Proof
-- ==== Proof.Tile.lean ====
/-
  What one tile's task does, as the launch theorem asks it: handed its sixty-four chunks of the two arrays and its row of
  the shared memory, it hands them back, the output's chunks holding the gathered input.
-/
module

public import proofs.«01_k».proof.Proof.Deal

@[expose] public section

noncomputable section

namespace Cert.Proof

open Cert.KernelIdeal Cert.KernelIdeal.Gen

open Idealize.ShloMosaic
open Idealize.ShloMosaic.SparseCore (S V T)
open Idealize.ShloMosaic.SparseCore.Cfg (HIx ownBufs ownSems0)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (d : Dev nD) (L : grid0.Coords)
variable (O : CellTallies nD τ sig (HIx 1)) (W : Waits sig (HIx 1))

/-- A worker's chunks before its task: the input's, and the output's as the launch found them. -/
def Todo : sProp (MT nD τ sig (HIx 1) (Elt F) ℕ UU ℕ) := bigSep (Finset.range 64) fun n => Pend m d L n
/-- A worker's chunks after its task: the input's, and the output's holding the gathered input. -/
def Done : sProp (MT nD τ sig (HIx 1) (Elt F) ℕ UU ℕ) := bigSep (Finset.range 64) fun n => Moved m d L n

/-- The ledger before the run: nothing moved, everything to move. -/
theorem ledger_open : iprop(Todo m d L ∗ Debt d L O W) ⊢ Ledger m d L O W 0 0 := by
  unfold Todo Ledger
  rw [Finset.range_eq_Ico, Finset.range_zero, bigSep_empty]
  iintro ⟨H, Hd⟩
  isplitr; · iempintro
  iframe

/-- The ledger after the run: everything moved, nothing to move. -/
theorem ledger_close : Ledger m d L O W 64 64 ⊢ iprop(Done m d L ∗ Debt d L O W) := by
  unfold Done Ledger
  iintro ⟨H, -, Hd⟩
  iframe

/-- A tile's task, with what the launch gives it and takes back. -/
theorem tile_body (hF : (K (F := F)).Facts) (hO : ∀ g, O g none = 0) :
    iprop(levAts (K (F := F)).L (K (F := F)).lev ∗ emp ∗ (Todo m d L ∗ Row (F := F) d (cV L) (sV L))
        ∗ scopedBufs (worker d L) ∗ scopedSems0 (worker d L) ∗ owes (worker d L) O W)
      ⊢ wp frame (wpE (defs₀ (F := F)) 𝒱₀ (worker d L) none) Set.univ
     (cc0__gather_view (F := F) L inMem (Memref.isWhole_whole _) outMem (Memref.isWhole_whole _) ownMem (Memref.isWhole_whole _) commonMem (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17)
     fun _ => iprop((Done m d L ∗ Row (F := F) d (cV L) (sV L)) ∗ scopedBufs (worker d L) ∗ scopedSems0 (worker d L)
        ∗ ∃ W', ⌜∀ p ∈ W', p ∈ W ∨ p.2 = none ∨ p.2 = some (0 : Fin 1)⌝ ∗ owes (worker d L) O W') := by
  rw [(K (F := F)).scopedBufs_V hF d (cV L) (jV L), SparseCore.Cfg.scopedSems0_V (Val := Elt F) d (cV L) (jV L), ownBufs_eq]
  iintro ⟨#Hlv, -, ⟨Ht, Hr⟩, ⟨Hm, Hb⟩, Hs, HO⟩
  ihave Hmw := (show levAts (K (F := F)).L (K (F := F)).lev ⊢ Transfers.MayWaits (worker d L) (default : HIx 1) O from
    (K (F := F)).mayWaits_none (thr := worker d L) hO) $$ Hlv
  ihave A := (deal_slots (F := F) d L) $$ [Hm Hr Hs]
  · iframe
  ihave H := (ledger_open m d L O W) $$ [Ht HO Hmw]
  · unfold Debt
    isplitl [Ht]; · iexact Ht
    isplitl [Hmw]; · iexact Hmw
    iexists W
    isplitr; · ipureintro; exact fun p h => .inl h
    iexact HO
  ihave R := (worker_run m d L O W) $$ [A H]
  · iframe
  iapply (wp_wand _ _ _) $$ R
  iintro %_ ⟨A, H⟩
  ihave A := (gather_slots (F := F) d L) $$ A
  ihave H := (ledger_close m d L O W) $$ H
  icases A with ⟨Hm, Hr, Hs⟩
  unfold Debt
  icases H with ⟨Ht, -, %W', %hW, HO⟩
  iframe
  iexists W'
  isplitr
  · ipureintro; exact fun p h => (hW p h).imp_right .inl
  iframe

end Cert.Proof
-- ==== Proof.Share.lean ====
/-
  The two arrays and the shared memory, shared out: the arrays among the two SparseCores' sixteen tiles' sixty-four
  chunks, the shared memory among its sixteen rows' four quarters.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx ownBufs ownRefs mem_ownRefs)
open Idealize.SL Idealize.SL.RA Idealize.SL.BI
open scoped Idealize.SL.BI
open Idealize.SL.BI.BIBase Idealize.SL.BI.Laws Idealize.SL.ProofMode Idealize.SL.Sem

variable {F : FTy → Type}

/-- The worker on SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- A worker on a SparseCore and a tile given by number. -/
abbrev wk (c : Fin 2) (s : Fin 16) : grid0.Coords := coordsV c s

/-! ## Pieces numbered by core, tile and chunk -/

/-- All of them. -/
def numbers : Finset (Fin 2 × Fin 16 × ℕ) := Finset.univ ×ˢ Finset.univ ×ˢ Finset.range 64

/-- A number is one of them when its chunk is below sixty-four. -/
theorem mem_numbers {p : Fin 2 × Fin 16 × ℕ} : p ∈ numbers ↔ p.2.2 < 64 := by
  simp [numbers]

variable {α : Type} [DecidableEq α] {piece : Fin 2 × Fin 16 × ℕ → Finset α} {key : α → ℕ}

/-- Pieces told apart by a number of their elements are disjoint. -/
theorem numbered_disjoint (h : ∀ p i, i ∈ piece p ↔ key i = 128 * p.2.1.val + 64 * p.1.val + p.2.2 % 64) :
    ∀ p ∈ numbers, ∀ q ∈ numbers, p ≠ q → Disjoint (piece p) (piece q) := by
  rintro ⟨c, s, n⟩ hn ⟨c', s', n'⟩ hn' hne
  have hn : n < 64 := mem_numbers.mp hn
  have hn' : n' < 64 := mem_numbers.mp hn'
  refine Finset.disjoint_left.mpr fun i hi hj => hne ?_
  have e : key i = 128 * s.val + 64 * c.val + n % 64 := (h _ i).mp hi
  have e' : key i = 128 * s'.val + 64 * c'.val + n' % 64 := (h _ i).mp hj
  have hc : c = c' := Fin.ext (by omega)
  have hs : s = s' := Fin.ext (by omega)
  have hnn : n = n' := by omega
  rw [hc, hs, hnn]

/-- And together they are everything, the numbers being below 2048. -/
theorem numbered_cover [Fintype α] (h : ∀ p i, i ∈ piece p ↔ key i = 128 * p.2.1.val + 64 * p.1.val + p.2.2 % 64)
    (hk : ∀ i, key i < 2048) : numbers.biUnion piece = Finset.univ := by
  ext i
  have hi := hk i
  simp only [Finset.mem_biUnion, Finset.mem_univ, iff_true]
  refine ⟨(⟨key i % 128 / 64, by omega⟩, ⟨key i / 128, by omega⟩, key i % 64), mem_numbers.mpr (by show key i % 64 < 64; omega), ?_⟩
  refine (h _ i).mpr ?_
  show key i = 128 * (key i / 128) + 64 * (key i % 128 / 64) + key i % 64 % 64
  omega

/-! ## The input and the output -/

/-- The input's elements, numbered by row. -/
theorem in_key (p : Fin 2 × Fin 16 × ℕ) (i : S16384x2048.Idx) :
    i ∈ inSet (wk p.1 p.2.1) p.2.2 ↔ (i 0).val / 8 = 128 * p.2.1.val + 64 * p.1.val + p.2.2 % 64 := mem_inSet
/-- The output's, by block and row. -/
theorem out_key (p : Fin 2 × Fin 16 × ℕ) (i : S4x4096x2048.Idx) :
    i ∈ outSet (wk p.1 p.2.1) p.2.2 ↔ 512 * (i 0).val + (i 1).val / 8 = 128 * p.2.1.val + 64 * p.1.val + p.2.2 % 64 := mem_outSet

/-- The input's rows are 2048 groups of eight. -/
theorem in_key_lt (i : S16384x2048.Idx) : (i 0).val / 8 < 2048 := by
  have h : (i 0).val < 16384 := (i 0).isLt
  omega
/-- So are the output's. -/
theorem out_key_lt (i : S4x4096x2048.Idx) : 512 * (i 0).val + (i 1).val / 8 < 2048 := by
  have h : (i 0).val < 4 := (i 0).isLt
  have h' : (i 1).val < 4096 := (i 1).isLt
  omega

/-- A separating product over core, tile and chunk. -/
theorem bigSep_numbers (Φ : Fin 2 × Fin 16 × ℕ → sProp (MT nD τ sig (HIx 1) (Elt F) ℕ UU ℕ)) :
    bigSep numbers Φ
      = bigSep Finset.univ fun c : Fin 2 => bigSep Finset.univ fun s : Fin 16 => bigSep (Finset.range 64) fun n => Φ (c, s, n) := by
  unfold numbers
  rw [SparseCore.bigSep_product]
  exact bigSep_congr fun c _ => SparseCore.bigSep_product _ _ _

/-- The input is its chunks. -/
theorem in_chunks (d : Dev nD) (f : Buf (Elt F) (xLoc d)) :
    (xLoc d ↦{fullShare} f : sProp (MT nD τ sig (HIx 1) (Elt F) ℕ UU ℕ))
      = bigSep numbers fun p => xLoc d ↦[inSet (wk p.1 p.2.1) p.2.2]{fullShare} f := by
  rw [← pointsTo_biUnion (ℓ := xLoc d) numbers (fun p => inSet (wk p.1 p.2.1) p.2.2) (numbered_disjoint in_key),
    numbered_cover in_key in_key_lt]
/-- The output is its chunks. -/
theorem out_chunks (d : Dev nD) (f : Buf (Elt F) (oLoc d)) :
    (oLoc d ↦{fullShare} f : sProp (MT nD τ sig (HIx 1) (Elt F) ℕ UU ℕ))
      = bigSep numbers fun p => oLoc d ↦[outSet (wk p.1 p.2.1) p.2.2]{fullShare} f := by
  rw [← pointsTo_biUnion (ℓ := oLoc d) numbers (fun p => outSet (wk p.1 p.2.1) p.2.2) (numbered_disjoint out_key),
    numbered_cover out_key out_key_lt]

variable [FloatOps F]
variable (m : (ℓ : Loc nD τ sig) → Buf (Elt F) ℓ) (d : Dev nD)

/-- The arrays as the launch finds them are every worker's chunks to move. -/
theorem arrays_todo :
    iprop((xLoc d ↦{fullShare} m (xLoc d)) ∗ oLoc d ↦{fullShare} m (oLoc d))
      = bigSep Finset.univ fun c : Fin 2 => bigSep Finset.univ fun s : Fin 16 => Todo m d (wk c s) := by
  rw [in_chunks, out_chunks, ← bigSep_sep', bigSep_numbers]
  rfl

/-- Every worker's moved chunks are the input as it was, and the output holding the gathered input. -/
theorem arrays_done :
    iprop((xLoc d ↦{fullShare} m (xLoc d)) ∗ oLoc d ↦{fullShare} gathered (m (xLoc d)))
      = bigSep Finset.univ fun c : Fin 2 => bigSep Finset.univ fun s : Fin 16 => Done m d (wk c s) := by
  rw [in_chunks, out_chunks, ← bigSep_sep', bigSep_numbers]
  rfl

/-! ## The shared memory -/

/-- The quarters of the shared rows do not overlap. -/
theorem common_disjoint : ∀ p ∈ (Finset.univ : Finset (Fin 16 × Fin 4)), ∀ q ∈ (Finset.univ : Finset (Fin 16 × Fin 4)), p ≠ q →
    Disjoint (commonSet p.1 p.2) (commonSet q.1 q.2) := by
  rintro ⟨s, b⟩ - ⟨s', b'⟩ - h
  refine Finset.disjoint_left.mpr fun i hi hj => h ?_
  have e := mem_commonSet.mp hi
  have e' := mem_commonSet.mp hj
  exact Prod.ext (Fin.ext (e.1.symm.trans e'.1)) (Fin.ext (e.2.symm.trans e'.2))

/-- Together they are all the shared memory. -/
theorem common_cover : (Finset.univ : Finset (Fin 16 × Fin 4)).biUnion (fun p => commonSet p.1 p.2) = Finset.univ := by
  ext i
  simp only [Finset.mem_biUnion, Finset.mem_univ, true_and, iff_true]
  exact ⟨(⟨(i 0).val, (i 0).isLt⟩, ⟨(i 1).val, (i 1).isLt⟩), mem_commonSet.mpr ⟨rfl, rfl⟩⟩

variable (c : Fin τ.nSC)

/-- SparseCore `c`'s shared memory at some contents. -/
abbrev CommonMem : sProp (MT nD τ sig (HIx 1) (Elt F) ℕ UU ℕ) :=
  iprop(∃ f : Buf (Elt F) (commonLoc d c), commonLoc d c ↦{fullShare} f)
/-- The other buffers of the SparseCore's sequencer. -/
abbrev SeqOthers : sProp (MT nD τ sig (HIx 1) (Elt F) ℕ UU ℕ) :=
  bigSep ((ownRefs (Proc.scScalar c : Proc τ)).erase (commonRef c)) fun b => iprop(∃ f, ((d, b) : Loc nD τ sig) ↦{fullShare} f)

omit [FloatOps F] in
/-- A sequencer's buffers are its SparseCore's shared memory and the rest. -/
theorem seqBufs_eq : (ownBufs (S d c) : sProp (MT nD τ sig (HIx 1) (Elt F) ℕ UU ℕ)) = iprop(CommonMem d c ∗ SeqOthers d c) := by
  unfold SparseCore.Cfg.ownBufs
  exact SparseCore.bigSep_erase' ((mem_ownRefs (p := Proc.scScalar c) (b := commonRef c)).mpr rfl)

/-- The sixteen rows are the sixty-four quarters. -/
theorem rows_eq : (bigSep Finset.univ fun s : Fin 16 => Row (F := F) d c s)
    = bigSep Finset.univ fun p : Fin 16 × Fin 4 => CommonPiece (F := F) d c p.1 p.2 := by
  rw [bigSep_univ_prod]
  exact bigSep_congr fun _ _ => rfl

/-- The shared memory is its sixteen rows. -/
theorem common_deal : CommonMem (F := F) d c ⊢ bigSep Finset.univ fun s : Fin 16 => Row (F := F) d c s := by
  rw [rows_eq]
  exact deal_pieces (ℓ := commonLoc d c) Finset.univ (fun p : Fin 16 × Fin 4 => commonSet p.1 p.2) common_disjoint common_cover
/-- And the sixteen rows are the shared memory. -/
theorem common_join : (bigSep Finset.univ fun s : Fin 16 => Row (F := F) d c s) ⊢ CommonMem (F := F) d c := by
  rw [rows_eq]
  exact join_pieces (ℓ := commonLoc d c) Finset.univ (fun p : Fin 16 × Fin 4 => commonSet p.1 p.2) common_disjoint common_cover

end Cert.Proof
-- ==== Proof.Launch.lean ====
/-
  The whole program's run: the launch hands the two SparseCores the arrays, they hand their tiles the chunks, and when all
  is done the input is as it was and the output holds the gathered input.
-/
module

public import proofs.«01_k».proof.Proof.Share

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-- The variant at a task's start. -/
abbrev v₀ : 𝒱.V := Sum.inl none

/-- The call runs on two SparseCores. -/
theorem nCore_eq (q : Fin 1) : (K (F := F)).nCore q = 2 := match q with | 0 => rfl
/-- On each it runs on sixteen tiles. -/
theorem nSub_eq (q : Fin 1) : (K (F := F)).nSub q = 16 := match q with | 0 => rfl
/-- The SparseCore the launch numbers `c`. -/
abbrev coreOf (c : Fin ((K (F := F)).nCore 0)) : Fin τ.nSC := (K (F := F)).core 0 c
/-- The worker on the launch's core `c` and tile `i`. -/
abbrev wkOf {q : Fin 1} (c : Fin ((K (F := F)).nCore q)) (i : Fin ((K (F := F)).nSub q)) : grid0.Coords :=
  wk (Fin.cast (nCore_eq q) c) (Fin.cast (nSub_eq q) i)

/-- A separating product over the call's cores is one over two. -/
theorem bigSep_cores (Φ : Fin 2 → sProp (MT nD τ sig (HIx 1) (Elt F) ℕ UU ℕ)) :
    (bigSep Finset.univ fun c : Fin ((K (F := F)).nCore 0) => Φ (Fin.cast (nCore_eq 0) c)) = bigSep Finset.univ Φ :=
  bigSep_congr fun _ _ => congrArg Φ (Fin.ext rfl)
/-- A separating product over the call's tiles is one over sixteen. -/
theorem bigSep_tiles (Φ : Fin 16 → sProp (MT nD τ sig (HIx 1) (Elt F) ℕ UU ℕ)) :
    (bigSep Finset.univ fun i : Fin ((K (F := F)).nSub 0) => Φ (Fin.cast (nSub_eq 0) i)) = bigSep Finset.univ Φ :=
  bigSep_congr fun _ _ => congrArg Φ (Fin.ext rfl)

variable [FloatOps F]

/-! ## What the handshakes carry -/

/-- What SparseCore `c` is given: its tiles' chunks to move. -/
def CoreTodo (d : Dev nD) (c : Fin 2) : sProp (MT nD τ sig (HIx 1) (Elt F) ℕ UU ℕ) := bigSep Finset.univ fun s : Fin 16 => Todo m d (wk c s)
/-- What it gives back: its tiles' chunks moved. -/
def CoreDone (d : Dev nD) (c : Fin 2) : sProp (MT nD τ sig (HIx 1) (Elt F) ℕ UU ℕ) := bigSep Finset.univ fun s : Fin 16 => Done m d (wk c s)
/-- What a tile is given: its chunks to move, and its row of the shared memory. -/
def TileTodo (d : Dev nD) (L : grid0.Coords) : sProp (MT nD τ sig (HIx 1) (Elt F) ℕ UU ℕ) := iprop(Todo m d L ∗ Row (F := F) d (cV L) (sV L))
/-- What it gives back: its chunks moved, and its row. -/
def TileDone (d : Dev nD) (L : grid0.Coords) : sProp (MT nD τ sig (HIx 1) (Elt F) ℕ UU ℕ) := iprop(Done m d L ∗ Row (F := F) d (cV L) (sV L))

/-- What a SparseCore is given can be kept in an invariant. -/
instance coreTodo_storable (d : Dev nD) (c : Fin 2) : BI.Storable (upEmb : UEmb _ 𝕄) (CoreTodo m d c) := by
  unfold CoreTodo Todo Pend; infer_instance
/-- So can what it gives back. -/
instance coreDone_storable (d : Dev nD) (c : Fin 2) : BI.Storable (upEmb : UEmb _ 𝕄) (CoreDone m d c) := by
  unfold CoreDone Done Moved; infer_instance
/-- So can what a tile is given. -/
instance tileTodo_storable (d : Dev nD) (L : grid0.Coords) : BI.Storable (upEmb : UEmb _ 𝕄) (TileTodo m d L) := by
  unfold TileTodo Todo Pend Row CommonPiece; infer_instance
/-- So can what it gives back. -/
instance tileDone_storable (d : Dev nD) (L : grid0.Coords) : BI.Storable (upEmb : UEmb _ 𝕄) (TileDone m d L) := by
  unfold TileDone Done Moved Row CommonPiece; infer_instance

/-- What the one call's handshakes carry. -/
def P : (K (F := F)).Pay (nD := nD) (Val := Elt F) (Name := ℕ) (U := UU) where
  st := fun q d c => CoreTodo m d (Fin.cast (nCore_eq q) c)
  dn := fun q d c => CoreDone m d (Fin.cast (nCore_eq q) c)
  go := fun q d c i => TileTodo m d (wkOf (F := F) c i)
  td := fun q d c i => TileDone m d (wkOf (F := F) c i)
  x := fun _ _ => iprop(emp)

/-- Everything the handshakes carry can be kept in an invariant. -/
instance P_storable : (P (F := F) m).IsStorable where
  st q d c := coreTodo_storable m d (Fin.cast (nCore_eq q) c)
  dn q d c := coreDone_storable m d (Fin.cast (nCore_eq q) c)
  go q d c i := tileTodo_storable m d (wkOf (F := F) c i)
  td q d c i := tileDone_storable m d (wkOf (F := F) c i)

/-! ## The tiles' and the sequencers' parts -/

/-- A tile's task is the kernel's body at its worker. -/
theorem defs₀_vector (c : Fin τ.nSC) (s : Fin τ.nSub) :
    defs₀ (F := F) (.scVector c s) 0 ()
      = SparseCore.onTile hcore0 hsub0 (fun c s => cc0__gather_view (F := F) (coordsV c s) inMem (Memref.isWhole_whole _) outMem (Memref.isWhole_whole _) ownMem (Memref.isWhole_whole _) commonMem (Memref.isWhole_whole _) cc0_scratch2 cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17) ⟨⟩ c s := rfl

set_option maxRecDepth 16384 in
/-- Every tile's task does what its handshake promises. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) O W hF hO

/-- A SparseCore's chunks to move and its shared memory are what its tiles are given. -/
theorem core_deal (d : Dev nD) (c : Fin 2) :
    iprop(CoreTodo m d c ∗ CommonMem (F := F) d (c.castLE hcore0)) ⊢ bigSep Finset.univ fun s : Fin 16 => TileTodo m d (wk c s) := by
  have h : (bigSep Finset.univ fun s : Fin 16 => TileTodo m d (wk c s))
      = iprop(CoreTodo m d c ∗ bigSep Finset.univ fun s : Fin 16 => Row (F := F) d (c.castLE hcore0) s) := by
    unfold CoreTodo
    rw [← bigSep_sep']
    exact bigSep_congr fun s _ => rfl
  rw [h]
  exact sep_mono_right (common_deal (F := F) d (c.castLE hcore0))

/-- What its tiles give back are its chunks moved and its shared memory. -/
theorem core_join (d : Dev nD) (c : Fin 2) :
    (bigSep Finset.univ fun s : Fin 16 => TileDone m d (wk c s)) ⊢ iprop(CoreDone m d c ∗ CommonMem (F := F) d (c.castLE hcore0)) := by
  have h : (bigSep Finset.univ fun s : Fin 16 => TileDone m d (wk c s))
      = iprop(CoreDone m d c ∗ bigSep Finset.univ fun s : Fin 16 => Row (F := F) d (c.castLE hcore0) s) := by
    unfold CoreDone
    rw [← bigSep_sep']
    exact bigSep_congr fun s _ => rfl
  rw [h]
  exact sep_mono_right (common_join (F := F) d (c.castLE hcore0))

/-- A sequencer shares its tiles' chunks and its shared memory among them, and gathers them again. -/
theorem vecSplit : (K (F := F)).VecSplit (P m) 0 := by
  intro d c
  show iprop(CoreTodo m d (Fin.cast (nCore_eq 0) c) ∗ ownBufs (S d (coreOf (F := F) c)))
    ⊢ |={Set.univ}=> iprop((bigSep Finset.univ fun i : Fin ((K (F := F)).nSub 0) => TileTodo m d (wkOf (F := F) c i))
      ∗ ((bigSep Finset.univ fun i : Fin ((K (F := F)).nSub 0) => TileDone m d (wkOf (F := F) c i))
        -∗ iprop(CoreDone m d (Fin.cast (nCore_eq 0) c) ∗ ownBufs (S d (coreOf (F := F) c)))))
  rw [bigSep_tiles (F := F) (fun s => TileTodo m d (wk (Fin.cast (nCore_eq 0) c) s)),
    bigSep_tiles (F := F) (fun s => TileDone m d (wk (Fin.cast (nCore_eq 0) c) s)), seqBufs_eq]
  iintro ⟨Ht, Hc, Hb⟩
  ihave Hr := (core_deal m d (Fin.cast (nCore_eq 0) c)) $$ [Ht Hc]
  · isplitl [Ht]; · iexact Ht
    iexact Hc
  imodintro
  isplitl [Hr]; · iexact Hr
  iintro Hr
  ihave H := (core_join m d (Fin.cast (nCore_eq 0) c)) $$ Hr
  icases H with ⟨Hd, Hc⟩
  isplitl [Hd]; · iexact Hd
  isplitl [Hc]; · iexact Hc
  iexact Hb

/-! ## The launch's own resources -/

/-- The resources the launch starts from: the handshakes'. -/
def u₀ : UU := (initOf (K (F := F)).hsCells (K (F := F)).hsToks, 1)

omit [FloatOps F] in
/-- A separating product of nothing is nothing. -/
theorem bigSep_emp {I : Type} (s : Finset I) :
    (bigSep s fun _ => iprop(emp)) = (iprop(emp) : sProp (MT nD τ sig (HIx 1) (Elt F) ℕ UU ℕ)) := bigSep_emp_const s

/-- They are dealt to the handshakes; the kernel asks for none of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp]
  iempintro

/-! ## The host program -/

omit [FloatOps F] in
/-- The host's buffers are the input and the output. -/
theorem unscopedBufs_eq (d : Dev nD) (W : (b : Ref sig .tc) → Buf (Elt F) ((d.tc : Thread nD τ).loc b)) :
    (unscopedBufs d W : sProp (MT nD τ sig (HIx 1) (Elt F) ℕ UU ℕ))
      = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- What the host holds at the end. -/
abbrev FIN (d : Dev nD) : sProp (MT nD τ sig (HIx 1) (Elt F) ℕ UU ℕ) :=
  iprop((xLoc d ↦{fullShare} m (xLoc d)) ∗ oLoc d ↦{fullShare} gathered (m (xLoc d)))

/-- What the call hands the SparseCores is the two arrays as the launch finds them. -/
theorem st_eq (d : Dev nD) : (bigSep Finset.univ fun c : Fin ((K (F := F)).nCore 0) => (P m).st 0 d c)
    = iprop((xLoc d ↦{fullShare} m (xLoc d)) ∗ oLoc d ↦{fullShare} m (oLoc d)) := by
  rw [arrays_todo]
  exact bigSep_cores (F := F) (CoreTodo m d)
/-- What they give back is the input as it was and the output holding the gathered input. -/
theorem dn_eq (d : Dev nD) : (bigSep Finset.univ fun c : Fin ((K (F := F)).nCore 0) => (P m).dn 0 d c) = FIN m d := by
  rw [FIN, arrays_done]
  exact bigSep_cores (F := F) (CoreDone m d)

/-- The host's one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st_eq]
    isplitl [Hx]; · iexact Hx
    iexact Ho
  iintro ⟨Hst, Hdn⟩
  ihave Hdn := (Entails.of_eq (dn_eq m d)) $$ Hdn
  imodintro
  isplitl [Hst]; · iexact Hst
  isplitl [Hdn]; · iexact Hdn
  isplitl [Hb] <;> iassumption

/-- What the memory then is. -/
def fq (d : Dev nD) (s' : Phys nD τ sig (Elt F)) : Prop :=
  s'.mem.mem (xLoc d) = m (xLoc d) ∧ s'.mem.mem (oLoc d) = gathered (m (xLoc d))

/-- The memory agrees with what the host holds at the end. -/
theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := gathered (m (xLoc d)))) $$ [HSI Ho]
  · isplitl [HSI] <;> iassumption
  icases H with %ho
  ipureintro; exact ⟨funext fun i => hx i (Finset.mem_univ i), funext fun i => ho i (Finset.mem_univ i)⟩

/-! ## The run -/

/-- What a run ends in: on every device the input as it was and the output holding the gathered input; every semaphore at zero. -/
def QC : PUnit × MemSt nD τ sig (Elt F) → Prop := fun r =>
  (∀ c : Dev nD, r.2.mem (xLoc c) = m (xLoc c) ∧ r.2.mem (oLoc c) = gathered (m (xLoc c))) ∧ r.2.sem = fun _ => 0

/-- The program's run, from any memory and at any float values. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

end Cert.Proof
-- ==== Proof.Frames.lean ====
/-
  The three programs run to the end, their arguments unchanged and every semaphore at zero. The kernel and its
  idealization have one text, so one run serves both.
-/
module

public import proofs.«01_k».proof.Proof.Launch
public import proofs.«01_k».proof.Defs
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem
open Cert.Kernel.Gen Cert.KernelIdeal.Gen Cert.ReferenceIdeal.Gen

/-- The kernel as printed, at the machine's floats. -/
theorem frame_kernel : Cert.quiescent_Kernel := fun m ρ _ =>
  (θ_run Cert.KernelIdeal.defs _ _).mono (fun _ h => ⟨fun c => (h.1 c).1, h.2⟩) (run_main (F := Bits) m ρ)

/-- The kernel at the ideal floats. -/
theorem frame_ideal : Cert.quiescent_KernelIdeal := fun m ρ _ =>
  (θ_run Cert.KernelIdeal.defs _ _).mono (fun _ h => ⟨fun c => (h.1 c).1, h.2⟩) (run_main (F := Ideal) m ρ)

/-- The reference at the ideal floats; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Value.lean ====
/-
  The kernel's result is the reference's: the input's elements in the same row-major order.
-/
module

public import proofs.«01_k».proof.Proof.Frames

@[expose] public section

noncomputable section

namespace Cert.Proof

open Idealize.ShloMosaic Idealize.SL.Sem
open Cert.KernelIdeal.Gen Cert.ReferenceIdeal.Gen

/-- The reference's reshape of an array is what the kernel leaves in the output. -/
theorem reference_value {F : FTy → Type} (x : Cert.KernelIdeal.S16384x2048.Idx → Elt F .f32)
    (h : Cert.KernelIdeal.S16384x2048.ShapeCasts Cert.KernelIdeal.S4x4096x2048) :
    shapeCast Cert.KernelIdeal.S4x4096x2048 x h = gathered x := rfl

/-- The kernel and the reference end with equal results, from equal arguments. -/
theorem value : Cert.algebraic_KernelIdeal_ReferenceIdeal := by
  intro m ρ m' ρ' _ hagree
  refine ⟨fun c => gathered (m (xLoc c)), ?_, ?_⟩
  · exact (θ_run Cert.KernelIdeal.defs _ _).mono (fun _ h c => ⟨(h.1 c).2, (h.1 c).1⟩) (run_main (F := Ideal) m ρ)
  · refine (θ_run Cert.ReferenceIdeal.defs _ _).mono (fun _ h c => ⟨(h c).1.trans ?_, (h c).2⟩)
      (Cert.ReferenceIdeal.Value.run (F := Ideal) m' ρ')
    rw [hagree c]
    exact reference_value _ _

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, value⟩

end Cert.Proof

end
